-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_molecules_in_order [hPre_molecules_in_order : Cert.Pre_molecules_in_order.Facts] (m : (ℓ : Loc Cert.KernelIdeal.nD Cert.KernelIdeal.τ Cert.KernelIdeal.sig) → Buf (Elt Ideal) ℓ) : Prop :=
  ∀ c : Dev Cert.KernelIdeal.nD,
    (Cert.Pre_molecules_in_order.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_molecules_in_order [hPre_molecules_in_order : Cert.Pre_molecules_in_order.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_molecules_in_order.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_molecules_in_order [hKernelIdeal : Cert.KernelIdeal.Facts] [hPre_molecules_in_order : Cert.Pre_molecules_in_order.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_molecules_in_order m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_molecules_in_order [hReferenceIdeal : Cert.ReferenceIdeal.Facts] [hPre_molecules_in_order : Cert.Pre_molecules_in_order.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_molecules_in_order m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "forces" .f32 0x380BCF65#32 ((30000⁻¹ : ℝ) : EReal)
  ∧ IdealRules.named_const.Statement Cert.KernelIdeal.κ "intermol" .f32 0x39AEC33E#32 ((3000⁻¹ : ℝ) : EReal)

def algebraic_KernelIdeal_ReferenceIdeal_pre_molecules_in_order [hKernelIdeal : Cert.KernelIdeal.Facts] [hReferenceIdeal : Cert.ReferenceIdeal.Facts] [hPre_molecules_in_order : Cert.Pre_molecules_in_order.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_molecules_in_order m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_molecules_in_order : Cert.Pre_molecules_in_order.Facts),
    quiescent_Kernel (hKernel := hKernel)
    ∧ quiescent_KernelIdeal (hKernelIdeal := hKernelIdeal)
    ∧ quiescent_KernelIdeal_pre_molecules_in_order (hKernelIdeal := hKernelIdeal) (hPre_molecules_in_order := hPre_molecules_in_order)
    ∧ quiescent_ReferenceIdeal (hReferenceIdeal := hReferenceIdeal)
    ∧ quiescent_ReferenceIdeal_pre_molecules_in_order (hReferenceIdeal := hReferenceIdeal) (hPre_molecules_in_order := hPre_molecules_in_order)
    ∧ preserves_Kernel_KernelIdeal
    ∧ algebraic_KernelIdeal_ReferenceIdeal_pre_molecules_in_order (hKernelIdeal := hKernelIdeal) (hReferenceIdeal := hReferenceIdeal) (hPre_molecules_in_order := hPre_molecules_in_order)
-- ==== Pre_molecules_in_order.lean ====
abbrev S1024 : Shape := ⟨1, ![1024]⟩
abbrev S1000000x3 : Shape := ⟨2, ![1000000, 3]⟩
abbrev S10000x100 : Shape := ⟨2, ![10000, 100]⟩
abbrev S1000000 : Shape := ⟨1, ![1000000]⟩
abbrev S_ : Shape := ⟨0, ![]⟩

class Facts : Prop where
  shapeCasts_S1000000_S10000x100 : S1000000.ShapeCasts S10000x100
  reducesTo_S10000x100_S_d0_1 : S10000x100.ReducesTo [0, 1] S_
  h_S_ : 0 < S_.numel

variable [Facts]

def fn {F : FTy → Type} [FloatOps F] (main_arg0 : FVec F S1024 .f32) (main_arg1 : FVec F S1024 .f32) (main_arg2 : FVec F S1000000x3 .f32) (main_arg3 : FVec F S1000000x3 .f32) (main_arg4 : IVec S1024 32) (main_arg5 : IVec S10000x100 32) : IVec S_ 1 :=
  let main_v0 : IVec S1000000 32 := iotaInDim S1000000 32 0
  let main_v1 : IVec S10000x100 32 := shapeCast S10000x100 main_v0 shapeCasts_S1000000_S10000x100
  let main_v2 : IVec S10000x100 1 := cmpi .eq main_arg5 main_v1
  let main_c : IVec S_ 1 := constantI S_ 1 1#1
  let main_v3 : IVec S_ 1 := (fun x v => Host.reduce IntOp.andi x v reducesTo_S10000x100_S_d0_1 h_S_) main_v2 main_c
  main_v3
-- ==== Kernel.lean ====
abbrev S1024 : Shape := ⟨1, ![1024]⟩
abbrev S1000000x3 : Shape := ⟨2, ![1000000, 3]⟩
abbrev S10000x100 : Shape := ⟨2, ![10000, 100]⟩
abbrev S3x1000000 : Shape := ⟨2, ![3, 1000000]⟩
abbrev S8x128 : Shape := ⟨2, ![8, 128]⟩
abbrev S12800x128 : Shape := ⟨2, ![12800, 128]⟩
abbrev S_ : Shape := ⟨0, ![]⟩
abbrev S1x1 : Shape := ⟨2, ![1, 1]⟩
abbrev S3x204800 : Shape := ⟨2, ![3, 204800]⟩
abbrev S64x12800 : Shape := ⟨2, ![64, 12800]⟩
abbrev S3x12800 : Shape := ⟨2, ![3, 12800]⟩
abbrev S1x12800 : Shape := ⟨2, ![1, 12800]⟩
abbrev S4x12800 : Shape := ⟨2, ![4, 12800]⟩
abbrev S64x128 : Shape := ⟨2, ![64, 128]⟩
abbrev S1x3x12800 : Shape := ⟨3, ![1, 3, 12800]⟩
abbrev S1 : Shape := ⟨1, ![1]⟩
abbrev S1x1x1 : Shape := ⟨3, ![1, 1, 1]⟩
abbrev S1x64x128 : Shape := ⟨3, ![1, 64, 128]⟩
abbrev S1x8x128 : Shape := ⟨3, ![1, 8, 128]⟩

abbrev nBuf : Space → Nat
  | .hbm => 35
  | .vmem => 10
  | .smem => 0
  | _ => 0

abbrev bufTy : (tb : Table) → Fin (tcTables nBuf tb) → BufTy
  | .hbm, ⟨0, _⟩ => ⟨S1024, .f32⟩
  | .hbm, ⟨1, _⟩ => ⟨S1024, .f32⟩
  | .hbm, ⟨2, _⟩ => ⟨S1000000x3, .f32⟩
  | .hbm, ⟨3, _⟩ => ⟨S1000000x3, .f32⟩
  | .hbm, ⟨4, _⟩ => ⟨S1024, .i32⟩
  | .hbm, ⟨5, _⟩ => ⟨S10000x100, .i32⟩
  | .hbm, ⟨6, _⟩ => ⟨S3x1000000, .f32⟩
  | .hbm, ⟨7, _⟩ => ⟨S3x1000000, .f32⟩
  | .hbm, ⟨8, _⟩ => ⟨S8x128, .f32⟩
  | .hbm, ⟨9, _⟩ => ⟨S8x128, .f32⟩
  | .hbm, ⟨10, _⟩ => ⟨S8x128, .i32⟩
  | .hbm, ⟨11, _⟩ => ⟨S12800x128, .i32⟩
  | .hbm, ⟨12, _⟩ => ⟨S_, .i32⟩
  | .hbm, ⟨13, _⟩ => ⟨S_, .i32⟩
  | .hbm, ⟨14, _⟩ => ⟨S12800x128, .i32⟩
  | .hbm, ⟨15, _⟩ => ⟨S12800x128, .i32⟩
  | .hbm, ⟨16, _⟩ => ⟨S12800x128, .i32⟩
  | .hbm, ⟨17, _⟩ => ⟨S_, .i32⟩
  | .hbm, ⟨18, _⟩ => ⟨S12800x128, .i32⟩
  | .hbm, ⟨19, _⟩ => ⟨S12800x128, .i1⟩
  | .hbm, ⟨20, _⟩ => ⟨S12800x128, .i32⟩
  | .hbm, ⟨21, _⟩ => ⟨S12800x128, .i32⟩
  | .hbm, ⟨22, _⟩ => ⟨S_, .i32⟩
  | .hbm, ⟨23, _⟩ => ⟨S12800x128, .i32⟩
  | .hbm, ⟨24, _⟩ => ⟨S12800x128, .i1⟩
  | .hbm, ⟨25, _⟩ => ⟨S12800x128, .i1⟩
  | .hbm, ⟨26, _⟩ => ⟨S_, .i32⟩
  | .hbm, ⟨27, _⟩ => ⟨S12800x128, .i32⟩
  | .hbm, ⟨28, _⟩ => ⟨S12800x128, .i32⟩
  | .hbm, ⟨29, _⟩ => ⟨S12800x128, .i32⟩
  | .hbm, ⟨30, _⟩ => ⟨S12800x128, .i32⟩
  | .hbm, ⟨31, _⟩ => ⟨S12800x128, .i1⟩
  | .hbm, ⟨32, _⟩ => ⟨S12800x128, .bf16⟩
  | .hbm, ⟨33, _⟩ => ⟨S1x1, .f32⟩
  | .hbm, ⟨34, _⟩ => ⟨S_, .f32⟩
  | .local _ .vmem, ⟨0, _⟩ => ⟨S8x128, .f32⟩
  | .local _ .vmem, ⟨1, _⟩ => ⟨S8x128, .f32⟩
  | .local _ .vmem, ⟨2, _⟩ => ⟨S8x128, .i32⟩
  | .local _ .vmem, ⟨3, _⟩ => ⟨S12800x128, .bf16⟩
  | .local _ .vmem, ⟨4, _⟩ => ⟨S3x204800, .f32⟩
  | .local _ .vmem, ⟨5, _⟩ => ⟨S3x204800, .f32⟩
  | .local _ .vmem, ⟨6, _⟩ => ⟨S3x204800, .f32⟩
  | .local _ .vmem, ⟨7, _⟩ => ⟨S3x204800, .f32⟩
  | .local _ .vmem, ⟨8, _⟩ => ⟨S1x1, .f32⟩
  | .local _ .vmem, ⟨9, _⟩ => ⟨S64x12800, .bf16⟩
  | _, _ => ⟨S1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8

abbrev nD : Nat := 1
abbrev τ : Topo := Topo.v7x

variable {F : FTy → Type} [FloatOps F]

abbrev grid0 : Pipeline.Grid := ⟨1, ![5], ![false]⟩

def k0_cond2 (i : grid0.Coords) : BitVec 1 :=
  let arg0 : BitVec 32 := BitVec.ofNat 32 (i 0).val
  let c0_i32_2 : BitVec 32 := 0#32
  let v9 : BitVec 1 := Scalar.cmpi .eq arg0 c0_i32_2
  let v10 : BitVec 32 := Scalar.extui v9
  let c0_i32_3 : BitVec 32 := 0#32
  let v11 : BitVec 1 := Scalar.cmpi .ne v10 c0_i32_3
  v11

def k0_cond3 (i : grid0.Coords) : BitVec 1 :=
  let arg0 : BitVec 32 := BitVec.ofNat 32 (i 0).val
  let c0_i32_4 : BitVec 32 := 0#32
  let v12 : BitVec 1 := Scalar.cmpi .ne arg0 c0_i32_4
  let v13 : BitVec 32 := Scalar.extui v12
  let c0_i32_5 : BitVec 32 := 0#32
  let v14 : BitVec 1 := Scalar.cmpi .ne v13 c0_i32_5
  v14

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x128 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S12800x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S3x204800 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3x204800 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== KernelIdeal.lean ====
variable {F : FTy → Type} [FloatOps F] [Named F]
def κ : String → Option EReal := fun
  | "forces" => some ((30000⁻¹ : ℝ) : EReal)
  | "intermol" => some ((3000⁻¹ : ℝ) : EReal)
  | _ => none
-- ==== ReferenceIdeal.lean ====
abbrev S1024 : Shape := ⟨1, ![1024]⟩
abbrev S1000000x3 : Shape := ⟨2, ![1000000, 3]⟩
abbrev S10000x100 : Shape := ⟨2, ![10000, 100]⟩
abbrev S_ : Shape := ⟨0, ![]⟩
abbrev S10000x100x1 : Shape := ⟨3, ![10000, 100, 1]⟩
abbrev S1 : Shape := ⟨1, ![1]⟩
abbrev S1x1x1 : Shape := ⟨3, ![1, 1, 1]⟩
abbrev S10000x100x3 : Shape := ⟨3, ![10000, 100, 3]⟩
abbrev S10000x3 : Shape := ⟨2, ![10000, 3]⟩

abbrev nBuf : Space → Nat
  | .hbm => 87
  | .vmem => 0
  | .smem => 0
  | _ => 0

abbrev bufTy : (tb : Table) → Fin (tcTables nBuf tb) → BufTy
  | .hbm, ⟨0, _⟩ => ⟨S1024, .f32⟩
  | .hbm, ⟨1, _⟩ => ⟨S1024, .f32⟩
  | .hbm, ⟨2, _⟩ => ⟨S1000000x3, .f32⟩
  | .hbm, ⟨3, _⟩ => ⟨S1000000x3, .f32⟩
  | .hbm, ⟨4, _⟩ => ⟨S1024, .i32⟩
  | .hbm, ⟨5, _⟩ => ⟨S10000x100, .i32⟩
  | .hbm, ⟨6, _⟩ => ⟨S_, .i32⟩
  | .hbm, ⟨7, _⟩ => ⟨S1024, .i32⟩
  | .hbm, ⟨8, _⟩ => ⟨S1024, .i32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S1000000x3, .f32⟩
  | .hbm, ⟨18, _⟩ => ⟨S1000000x3, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .i32⟩
  | .hbm, ⟨24, _⟩ => ⟨S10000x100, .i32⟩
  | .hbm, ⟨25, _⟩ => ⟨S10000x100, .i1⟩
  | .hbm, ⟨26, _⟩ => ⟨S_, .i32⟩
  | .hbm, ⟨27, _⟩ => ⟨S10000x100, .i32⟩
  | .hbm, ⟨28, _⟩ => ⟨S10000x100, .i32⟩
  | .hbm, ⟨29, _⟩ => ⟨S10000x100, .i32⟩
  | .hbm, ⟨30, _⟩ => ⟨S10000x100x1, .i32⟩
  | .hbm, ⟨31, _⟩ => ⟨S1, .i32⟩
  | .hbm, ⟨32, _⟩ => ⟨S_, .i32⟩
  | .hbm, ⟨33, _⟩ => ⟨S10000x100x1, .i32⟩
  | .hbm, ⟨34, _⟩ => ⟨S10000x100x1, .i1⟩
  | .hbm, ⟨35, _⟩ => ⟨S1x1x1, .i32⟩
  | .hbm, ⟨36, _⟩ => ⟨S10000x100x1, .i32⟩
  | .hbm, ⟨37, _⟩ => ⟨S10000x100x1, .i1⟩
  | .hbm, ⟨38, _⟩ => ⟨S10000x100x1, .i1⟩
  | .hbm, ⟨39, _⟩ => ⟨S_, .i1⟩
  | .hbm, ⟨40, _⟩ => ⟨S10000x100, .i1⟩
  | .hbm, ⟨41, _⟩ => ⟨S10000x100x3, .f32⟩
  | .hbm, ⟨42, _⟩ => ⟨S10000x100x3, .i1⟩
  | .hbm, ⟨43, _⟩ => ⟨S_, .f32⟩
  | .hbm, ⟨44, _⟩ => ⟨S10000x100x3, .f32⟩
  | .hbm, ⟨45, _⟩ => ⟨S10000x100x3, .f32⟩
  | .hbm, ⟨46, _⟩ => ⟨S_, .f32⟩
  | .hbm, ⟨47, _⟩ => ⟨S10000x3, .f32⟩
  | .hbm, ⟨48, _⟩ => ⟨S_, .i32⟩
  | .hbm, ⟨49, _⟩ => ⟨S10000x100, .i32⟩
  | .hbm, ⟨50, _⟩ => ⟨S10000x100, .i1⟩
  | .hbm, ⟨51, _⟩ => ⟨S_, .i32⟩
  | .hbm, ⟨52, _⟩ => ⟨S10000x100, .i32⟩
  | .hbm, ⟨53, _⟩ => ⟨S10000x100, .i32⟩
  | .hbm, ⟨54, _⟩ => ⟨S10000x100, .i32⟩
  | .hbm, ⟨55, _⟩ => ⟨S10000x100x1, .i32⟩
  | .hbm, ⟨56, _⟩ => ⟨S1, .i32⟩
  | .hbm, ⟨57, _⟩ => ⟨S_, .i32⟩
  | .hbm, ⟨58, _⟩ => ⟨S10000x100x1, .i32⟩
  | .hbm, ⟨59, _⟩ => ⟨S10000x100x1, .i1⟩
  | .hbm, ⟨60, _⟩ => ⟨S1x1x1, .i32⟩
  | .hbm, ⟨61, _⟩ => ⟨S10000x100x1, .i32⟩
  | .hbm, ⟨62, _⟩ => ⟨S10000x100x1, .i1⟩
  | .hbm, ⟨63, _⟩ => ⟨S10000x100x1, .i1⟩
  | .hbm, ⟨64, _⟩ => ⟨S_, .i1⟩
  | .hbm, ⟨65, _⟩ => ⟨S10000x100, .i1⟩
  | .hbm, ⟨66, _⟩ => ⟨S10000x100x3, .f32⟩
  | .hbm, ⟨67, _⟩ => ⟨S10000x100x3, .i1⟩
  | .hbm, ⟨68, _⟩ => ⟨S_, .f32⟩
  | .hbm, ⟨69, _⟩ => ⟨S10000x100x3, .f32⟩
  | .hbm, ⟨70, _⟩ => ⟨S10000x100x3, .f32⟩
  | .hbm, ⟨71, _⟩ => ⟨S_, .f32⟩
  | .hbm, ⟨72, _⟩ => ⟨S10000x3, .f32⟩
  | .hbm, ⟨73, _⟩ => ⟨S10000x3, .f32⟩
  | .hbm, ⟨74, _⟩ => ⟨S10000x3, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | _, _ => ⟨S1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_call0_c : Ref sig .tc := ⟨.hbm, 23, rfl⟩
abbrev main_call0_v0 : Ref sig .tc := ⟨.hbm, 24, rfl⟩
abbrev main_call0_v1 : Ref sig .tc := ⟨.hbm, 25, rfl⟩
abbrev main_call0_c_0 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_c_1 : Ref sig .tc := ⟨.hbm, 31, rfl⟩
abbrev main_call0_c_2 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_c_3 : Ref sig .tc := ⟨.hbm, 39, rfl⟩
abbrev main_call0_v12 : Ref sig .tc := ⟨.hbm, 40, rfl⟩
abbrev main_call0_v13 : Ref sig .tc := ⟨.hbm, 41, rfl⟩
abbrev main_call0_v14 : Ref sig .tc := ⟨.hbm, 42, rfl⟩
abbrev main_call0_cst : Ref sig .tc := ⟨.hbm, 43, rfl⟩
abbrev main_call0_v15 : Ref sig .tc := ⟨.hbm, 44, rfl⟩
abbrev main_v12 : Ref sig .tc := ⟨.hbm, 45, rfl⟩
abbrev main_cst_3 : Ref sig .tc := ⟨.hbm, 46, rfl⟩
abbrev main_v13 : Ref sig .tc := ⟨.hbm, 47, rfl⟩
abbrev main_call1_c : Ref sig .tc := ⟨.hbm, 48, rfl⟩
abbrev main_call1_v0 : Ref sig .tc := ⟨.hbm, 49, rfl⟩
abbrev main_call1_v1 : Ref sig .tc := ⟨.hbm, 50, rfl⟩
abbrev main_call1_c_0 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_call1_v5 : Ref sig .tc := ⟨.hbm, 55, rfl⟩
abbrev main_call1_c_1 : Ref sig .tc := ⟨.hbm, 56, rfl⟩
abbrev main_call1_c_2 : Ref sig .tc := ⟨.hbm, 57, rfl⟩
abbrev main_call1_v6 : Ref sig .tc := ⟨.hbm, 58, rfl⟩
abbrev main_call1_v7 : Ref sig .tc := ⟨.hbm, 59, rfl⟩
abbrev main_call1_v8 : Ref sig .tc := ⟨.hbm, 60, rfl⟩
abbrev main_call1_v9 : Ref sig .tc := ⟨.hbm, 61, rfl⟩
abbrev main_call1_v10 : Ref sig .tc := ⟨.hbm, 62, rfl⟩
abbrev main_call1_v11 : Ref sig .tc := ⟨.hbm, 63, rfl⟩
abbrev main_call1_c_3 : Ref sig .tc := ⟨.hbm, 64, rfl⟩
abbrev main_call1_v12 : Ref sig .tc := ⟨.hbm, 65, rfl⟩
abbrev main_call1_v13 : Ref sig .tc := ⟨.hbm, 66, rfl⟩
abbrev main_call1_v14 : Ref sig .tc := ⟨.hbm, 67, rfl⟩
abbrev main_call1_cst : Ref sig .tc := ⟨.hbm, 68, rfl⟩
abbrev main_call1_v15 : Ref sig .tc := ⟨.hbm, 69, rfl⟩
abbrev main_v14 : Ref sig .tc := ⟨.hbm, 70, rfl⟩
abbrev main_cst_4 : Ref sig .tc := ⟨.hbm, 71, rfl⟩
abbrev main_v15 : Ref sig .tc := ⟨.hbm, 72, rfl⟩
abbrev main_v16 : Ref sig .tc := ⟨.hbm, 73, rfl⟩
abbrev main_v17 : Ref sig .tc := ⟨.hbm, 74, rfl⟩
abbrev main_cst_5 : Ref sig .tc := ⟨.hbm, 75, rfl⟩
abbrev main_v18 : Ref sig .tc := ⟨.hbm, 76, rfl⟩
abbrev main_cst_6 : Ref sig .tc := ⟨.hbm, 77, rfl⟩
abbrev main_v19 : Ref sig .tc := ⟨.hbm, 78, rfl⟩
abbrev main_cst_7 : Ref sig .tc := ⟨.hbm, 79, rfl⟩
abbrev main_v20 : Ref sig .tc := ⟨.hbm, 80, rfl⟩
abbrev main_cst_8 : Ref sig .tc := ⟨.hbm, 81, rfl⟩
abbrev main_v21 : Ref sig .tc := ⟨.hbm, 82, rfl⟩
abbrev main_v22 : Ref sig .tc := ⟨.hbm, 83, rfl⟩
abbrev main_cst_9 : Ref sig .tc := ⟨.hbm, 84, rfl⟩
abbrev main_v23 : Ref sig .tc := ⟨.hbm, 85, rfl⟩
abbrev main_v24 : Ref sig .tc := ⟨.hbm, 86, rfl⟩

abbrev nD : Nat := 1
abbrev τ : Topo := Topo.v7x

variable {F : FTy → Type} [FloatOps F]
-- ==== Proof.Body.lean ====
/-
  The kernel's body, run once for each of its three kinds of grid step, over any arithmetic.
-/
module

public import proofs.«01_k».proof.Proof.Gen.KernelIdeal.Frame
public import proofs.«01_k».proof.Proof.Gen.KernelIdeal.Skeleton
public import Idealize.ShloMosaic.Lib.Claim

@[expose] public section

set_option maxRecDepth 16384

noncomputable section

namespace Cert.Proof.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

/-- The last step's test, as the kernel computes it. -/
abbrev lastStep (i : grid0.Coords) : BitVec 1 :=
  Scalar.cmpi .ne (Scalar.extui (Scalar.cmpi .eq (BitVec.ofNat 32 (i 0).val) 4#32) : BitVec 32) 0#32

section Runs

variable (c : Dev nD) (i : grid0.Coords)
  (M1 : Memref sig .tc .vmem S8x128 .f32) (h1 : M1.IsWhole) (M2 : Memref sig .tc .vmem S8x128 .f32) (h2 : M2.IsWhole)
  (M3 : Memref sig .tc .vmem S8x128 .i32) (h3 : M3.IsWhole) (M4 : Memref sig .tc .vmem S12800x128 .bf16) (h4 : M4.IsWhole)
  (M5 : Memref sig .tc .vmem S3x204800 .f32) (h5 : M5.IsWhole) (M6 : Memref sig .tc .vmem S3x204800 .f32) (h6 : M6.IsWhole)
  (M7 : Memref sig .tc .vmem S1x1 .f32) (h7 : M7.IsWhole) (M8 : Memref sig .tc .vmem S64x12800 .bf16) (h8 : M8.IsWhole)
  (x1 x2 : Vec F S8x128 .f32) (x3 : Vec F S8x128 .i32) (x4 : Vec F S12800x128 .bf16) (x5 x6 : Vec F S3x204800 .f32)

/-- The body's triple at a step, with `Y` the word left in the result's buffer when it held `y` before. -/
def Triple (y Y : Vec F S1x1 .f32) : Prop :=
  ∀ (E : Set ℕ) (K : PUnit → sProp 𝕄),
    iprop(owns (c : Thread nD τ) M1 fullShare x1 ∗ owns (c : Thread nD τ) M2 fullShare x2 ∗ owns (c : Thread nD τ) M3 fullShare x3
        ∗ owns (c : Thread nD τ) M4 fullShare x4 ∗ owns (c : Thread nD τ) M5 fullShare x5 ∗ owns (c : Thread nD τ) M6 fullShare x6
        ∗ owns (c : Thread nD τ) M7 fullShare y ∗ (∃ s, owns (c : Thread nD τ) M8 fullShare s)
        ∗ (iprop(owns (c : Thread nD τ) M1 fullShare x1 ∗ owns (c : Thread nD τ) M2 fullShare x2 ∗ owns (c : Thread nD τ) M3 fullShare x3
            ∗ owns (c : Thread nD τ) M4 fullShare x4 ∗ owns (c : Thread nD τ) M5 fullShare x5 ∗ owns (c : Thread nD τ) M6 fullShare x6
            ∗ owns (c : Thread nD τ) M7 fullShare Y ∗ (∃ s, owns (c : Thread nD τ) M8 fullShare s)) -∗ K ⟨⟩))
      ⊢ wp frame (wpE (defs₀ (F := F)) Variants.none c none) E
          (cc0__loss_body i M1 h1 M2 h2 M3 h3 M4 h4 M5 h5 M6 h6 M7 h7 M8 h8) K

/-- The same, over the buffers' cells: the inputs hold their blocks, and some contents of the result's buffer that read `Y`
and some contents of the scratch are left. -/
def Raw (y Y : Vec F S1x1 .f32) : Prop :=
  ∀ (E : Set ℕ) (K : PUnit → sProp 𝕄) (f8 : _),
    iprop((M1.view.loc (c : Thread nD τ) ↦[M1.view.set]{fullShare} h1.unread x1)
        ∗ (M2.view.loc (c : Thread nD τ) ↦[M2.view.set]{fullShare} h2.unread x2)
        ∗ (M3.view.loc (c : Thread nD τ) ↦[M3.view.set]{fullShare} h3.unread x3)
        ∗ (M4.view.loc (c : Thread nD τ) ↦[M4.view.set]{fullShare} h4.unread x4)
        ∗ (M5.view.loc (c : Thread nD τ) ↦[M5.view.set]{fullShare} h5.unread x5)
        ∗ (M6.view.loc (c : Thread nD τ) ↦[M6.view.set]{fullShare} h6.unread x6)
        ∗ (M7.view.loc (c : Thread nD τ) ↦[M7.view.set]{fullShare} h7.unread y) ∗ (M8.view.loc (c : Thread nD τ) ↦[M8.view.set]{fullShare} f8)
        ∗ (∀ f7, ∀ g8, iprop(⌜M7.view.read (Elt F) f7 = Y⌝
            ∗ (M1.view.loc (c : Thread nD τ) ↦[M1.view.set]{fullShare} h1.unread x1)
            ∗ (M2.view.loc (c : Thread nD τ) ↦[M2.view.set]{fullShare} h2.unread x2)
            ∗ (M3.view.loc (c : Thread nD τ) ↦[M3.view.set]{fullShare} h3.unread x3)
            ∗ (M4.view.loc (c : Thread nD τ) ↦[M4.view.set]{fullShare} h4.unread x4)
            ∗ (M5.view.loc (c : Thread nD τ) ↦[M5.view.set]{fullShare} h5.unread x5)
            ∗ (M6.view.loc (c : Thread nD τ) ↦[M6.view.set]{fullShare} h6.unread x6)
            ∗ (M7.view.loc (c : Thread nD τ) ↦[M7.view.set]{fullShare} f7) ∗ (M8.view.loc (c : Thread nD τ) ↦[M8.view.set]{fullShare} g8)) -∗ K ⟨⟩))
      ⊢ wp frame (wpE (defs₀ (F := F)) Variants.none c none) E
          (cc0__loss_body i M1 h1 M2 h2 M3 h3 M4 h4 M5 h5 M6 h6 M7 h7 M8 h8) K

/-- A run over the cells is a run over the blocks they read. -/
theorem triple_of_raw {y Y : Vec F S1x1 .f32} (h : Raw c i M1 h1 M2 h2 M3 h3 M4 h4 M5 h5 M6 h6 M7 h7 M8 h8 x1 x2 x3 x4 x5 x6 y Y) :
    Triple c i M1 h1 M2 h2 M3 h3 M4 h4 M5 h5 M6 h6 M7 h7 M8 h8 x1 x2 x3 x4 x5 x6 y Y := by
  intro E K
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%s8, %f8, -, H8⟩, Hk⟩
  obtain rfl := h1.eq_unread hf1; obtain rfl := h2.eq_unread hf2; obtain rfl := h3.eq_unread hf3
  obtain rfl := h4.eq_unread hf4; obtain rfl := h5.eq_unread hf5; obtain rfl := h6.eq_unread hf6
  obtain rfl := h7.eq_unread hf7
  iapply h E K f8
  iframe H1 H2 H3 H4 H5 H6 H7 H8
  iintro %f7 %g8 ⟨%hY, H1, H2, H3, H4, H5, H6, H7, H8⟩
  iapply Hk
  isplitl [H1]
  · iexists _; iframe H1; ipureintro; exact h1.read_unread _
  isplitl [H2]
  · iexists _; iframe H2; ipureintro; exact h2.read_unread _
  isplitl [H3]
  · iexists _; iframe H3; ipureintro; exact h3.read_unread _
  isplitl [H4]
  · iexists _; iframe H4; ipureintro; exact h4.read_unread _
  isplitl [H5]
  · iexists _; iframe H5; ipureintro; exact h5.read_unread _
  isplitl [H6]
  · iexists _; iframe H6; ipureintro; exact h6.read_unread _
  isplitl [H7]
  · iexists _; iframe H7; ipureintro; exact hY
  iexists _; iexists g8; iframe H8; ipureintro; rfl

/-- A step after the first that is not the last: no column is masked and the step adds to the result. -/
def runMid (hl : ¬ lastStep i = 1#1) (hc2 : ¬ k0_cond2 i = 1#1) (hc3 : k0_cond3 i = 1#1) (y : Vec F S1x1 .f32) :
    { Y : Vec F S1x1 .f32 // Raw c i M1 h1 M2 h2 M3 h3 M4 h4 M5 h5 M6 h6 M7 h7 M8 h8 x1 x2 x3 x4 x5 x6 y Y } := by
  refine ⟨?_, fun E K f8 => ?run⟩
  case run =>
    iintro ⟨H1, H2, H3, H4, H5, H6, H7, H8, Hk⟩
    sl_unfold [cc0__loss_body]
    sl_exec! (disch := first | sl_exact hc2 | sl_exact hc3 | exact hl)
    sl_step
    iapply Hk
    iframe H1 H2 H3 H4 H5 H6 H7 H8
    ipureintro; rfl

/-- The last step: the columns past the last atom are masked. -/
def runLast (hl : lastStep i = 1#1) (hc2 : ¬ k0_cond2 i = 1#1) (hc3 : k0_cond3 i = 1#1) (y : Vec F S1x1 .f32) :
    { Y : Vec F S1x1 .f32 // Raw c i M1 h1 M2 h2 M3 h3 M4 h4 M5 h5 M6 h6 M7 h7 M8 h8 x1 x2 x3 x4 x5 x6 y Y } := by
  refine ⟨?_, fun E K f8 => ?run⟩
  case run =>
    iintro ⟨H1, H2, H3, H4, H5, H6, H7, H8, Hk⟩
    sl_unfold [cc0__loss_body]
    sl_exec! (disch := first | sl_exact hc2 | sl_exact hc3 | exact hl)
    sl_step
    iapply Hk
    iframe H1 H2 H3 H4 H5 H6 H7 H8
    ipureintro; rfl

/-- The first step: no column is masked and the result starts with the energies' part. -/
def runFirst (hl : ¬ lastStep i = 1#1) (hc2 : k0_cond2 i = 1#1) (hc3 : ¬ k0_cond3 i = 1#1) (y : Vec F S1x1 .f32) :
    { Y : Vec F S1x1 .f32 // Raw c i M1 h1 M2 h2 M3 h3 M4 h4 M5 h5 M6 h6 M7 h7 M8 h8 x1 x2 x3 x4 x5 x6 y Y } := by
  refine ⟨?_, fun E K f8 => ?run⟩
  case run =>
    iintro ⟨H1, H2, H3, H4, H5, H6, H7, H8, Hk⟩
    sl_unfold [cc0__loss_body]
    sl_exec! (disch := first | sl_exact hc2 | sl_exact hc3 | exact hl)
    sl_step
    iapply Hk
    iframe H1 H2 H3 H4 H5 H6 H7 H8
    ipureintro; rfl

end Runs

end Cert.Proof.Body

end
-- ==== Proof.Step.lean ====
/-
  What one grid step computes, in the kernel's own operations and over any arithmetic: the column tiles of the two force
  blocks, their differences (masked or not), the running sum of squares, the left operand of the product and the step's
  share of the result. The kernel's body is shown to leave these values; the algebra reads them as sums.
-/
module

public import proofs.«01_k».proof.Proof.Gen.KernelIdeal.Frame
public import proofs.«01_k».proof.Proof.Gen.KernelIdeal.Skeleton
public import Idealize.ShloMosaic.Lib.Claim
public import Idealize.ShloMosaic.Lib.Pipeline.ValueKit
public import Idealize.ShloMosaic.Lib.ValueIdxCore
public import Idealize.ShloMosaic.Lib.WordCmp

@[expose] public section

noncomputable section

namespace Cert.Proof.Step

open Cert.KernelIdeal Cert.KernelIdeal.Gen
open Idealize.ShloMosaic

variable {F : FTy → Type} [FloatOps F] [Named F]

/-- The tile's entry `j` as an index of the block: the column moves by the tile's first column `o`. -/
def tileIdx (o : ℕ) (j : S3x12800.Idx) : S3x204800.Idx :=
  ValueIdx.ix2 (n0 := 3) (n1 := 204800) ⟨(j 0).val, (j 0).isLt⟩ ⟨(o + (j 1).val) % 204800, Nat.mod_lt _ (by decide)⟩

/-- The tile of 12800 columns of a block that starts at column `o`. -/
def tileAt (x : Vec F S3x204800 .f32) (o : ℕ) : Vec F S3x12800 .f32 := fun j => x (tileIdx o j)

/-- Predicted minus reference forces on a tile (`x5` holds the reference block, `x6` the predicted one). -/
def diffAt (x5 x6 : Vec F S3x204800 .f32) (o : ℕ) : FVec F S3x12800 .f32 := subf (tileAt x6 o) (tileAt x5 o)

/-- The same with zero in the columns past the last atom; `n` is the step's number. -/
def maskedAt (n : BitVec 32) (x5 x6 : Vec F S3x204800 .f32) (o : ℕ) : FVec F S3x12800 .f32 :=
  select (cmpi .slt (addi (broadcast S3x12800 (Scalar.addi (Scalar.muli n 204800#32) (BitVec.ofNat 32 o)))
      (iota .tc S3x12800 32 [1] iota_S3x12800_d1_w32)) (broadcast S3x12800 1000000#32))
    (diffAt x5 x6 o) (broadcast S3x12800 (Scalar.ofBits .f32 0x00000000#32))

/-- The running sum of the first `n` tiles' squares. -/
def squares (D : ℕ → FVec F S3x12800 .f32) : ℕ → FVec F S3x12800 .f32
  | 0 => broadcast S3x12800 (Scalar.ofBits .f32 0x00000000#32)
  | n + 1 => addf (squares D n) (mulf (D (12800 * n)) (D (12800 * n)))

/-- The sum of a tile's entries. -/
def total (f : FVec F S3x12800 .f32) : F .f32 :=
  extractAt ![0, 0, 0] (shapeCast S1x1x1
    (multiReduction .add [1, 2] S1 (shapeCast S1x3x12800 f shapeCasts_S3x12800_S1x3x12800) 0x00000000#32
      reduces_S1x3x12800_S1 (.inl rfl) rfl) shapeCasts_S1_S1x1x1) inpos_S1x1x1_p0_0_0

/-- A tile with a row of zeros below it, rounded to the product's format. -/
def rows (d : FVec F S3x12800 .f32) : FVec F S4x12800 .bf16 :=
  truncf .bf16 (concatenate S4x12800 0 [⟨S3x12800, d⟩, ⟨S1x12800, broadcast S1x12800 (Scalar.ofBits .f32 0x00000000#32)⟩]
    concatenates_S3x12800_S1x12800_S4x12800_d0) bitsLt_bf16_f32

/-- The product's left operand: rows `4 t … 4 t + 3` are tile `t`'s. -/
def lhs (D : ℕ → FVec F S3x12800 .f32) : FVec F S64x12800 .bf16 := fun j =>
  rows (D (12800 * ((j 0).val / 4))) (ValueIdx.ix2 (n0 := 4) (n1 := 12800) ⟨(j 0).val % 4, Nat.mod_lt _ (by decide)⟩ ⟨(j 1).val, (j 1).isLt⟩)

/-- A step's share of the result, added to nothing yet. -/
def share (D : ℕ → FVec F S3x12800 .f32) (x4 : Vec F S12800x128 .bf16) : F .f32 :=
  k0_pay11 (total (squares D 16)) (k0_pay10 x4 (lhs D))

/-- The first step's result: the energies' part and the step's share. -/
def first (D : ℕ → FVec F S3x12800 .f32) (x1 x2 : Vec F S8x128 .f32) (x3 : Vec F S8x128 .i32) (x4 : Vec F S12800x128 .bf16) :
    Vec F S1x1 .f32 := k0_pay12 (total (squares D 16)) (k0_pay10 x4 (lhs D)) x3 x1 x2

/-- A later step's result: the one before and the step's share. -/
def next (D : ℕ → FVec F S3x12800 .f32) (x4 : Vec F S12800x128 .bf16) (y : Vec F S1x1 .f32) : Vec F S1x1 .f32 :=
  k0_pay13 (total (squares D 16)) (k0_pay10 x4 (lhs D)) y

/-- A load of a tile from a block's buffer is the block's tile. -/
theorem load_tile {M : Memref sig .tc .vmem S3x204800 .f32} (h : M.IsWhole) (x : Vec F S3x204800 .f32) (o : ℕ) (ho : o ≤ 192000)
    (inb : ∀ a, (![0, o] : Fin 2 → ℕ) a + S3x12800.size a ≤ S3x204800.size a) :
    View.readAt (Elt F) M.view (Rect.unit (s := S3x204800) ![0, o] S3x12800.size inb).toLoadRect (h.unread x) = tileAt x o := by
  refine (View.readAt_eq_ld _ _ (Rect.unit (s := S3x204800) ![0, o] S3x12800.size inb)).trans ?_
  rw [h.read_unread]
  funext j
  refine View.ld_unit_apply_of x ![0, o] S3x12800.size inb j (tileIdx o j) fun a => ?_
  have h1 : (j 1).val < 12800 := (j 1).isLt
  match a with
  | ⟨0, _⟩ => exact (Nat.zero_add (j 0).val).symm
  | ⟨1, _⟩ => exact Nat.mod_eq_of_lt (show o + (j 1).val < 204800 by omega)

/-- The rows of tile `t`, stored at row `o = 4 t`, are the left operand's. -/
theorem rows_apply (D : ℕ → FVec F S3x12800 .f32) (t o : ℕ) (ho : o = 4 * t)
    (inb : ∀ a, (![o, 0] : Fin 2 → ℕ) a + S4x12800.size a ≤ S64x12800.size a) (x : S4x12800.Idx) :
    rows (D (12800 * t)) x = lhs D ((Rect.unit (s := S64x12800) ![o, 0] S4x12800.size inb).emb x) := by
  subst ho
  have h0 : (x 0).val < 4 := (x 0).isLt
  have e0 : (((Rect.unit (s := S64x12800) ![4 * t, 0] S4x12800.size inb).emb x) 0).val = 4 * t + (x 0).val := by
    simp [Rect.emb_apply]
  have e1 : (((Rect.unit (s := S64x12800) ![4 * t, 0] S4x12800.size inb).emb x) 1).val = (x 1).val := by
    simp [Rect.emb_apply]
  generalize (Rect.unit (s := S64x12800) ![4 * t, 0] S4x12800.size inb).emb x = z at e0 e1 ⊢
  have ht : (z 0).val / 4 = t := by omega
  refine Eq.trans ?_ (congrArg (fun n => rows (D (12800 * n)) _) ht.symm)
  refine congrArg (rows (D (12800 * t))) ?_
  funext a
  match a with
  | ⟨0, _⟩ => exact Fin.ext (show (x 0).val = (z 0).val % 4 by omega)
  | ⟨1, _⟩ => exact Fin.ext e1.symm

/-- The mask at an entry: the difference inside the array's columns, zero past them. -/
theorem maskedAt_apply (n o : ℕ) (hn : n ≤ 4) (ho : o ≤ 192000) (x5 x6 : Vec F S3x204800 .f32) (j : S3x12800.Idx) :
    maskedAt (BitVec.ofNat 32 n) x5 x6 o j
      = if n * 204800 + o + (j 1).val < 1000000 then diffAt x5 x6 o j else Scalar.ofBits .f32 0x00000000#32 := by
  have hj : (j 1).val < 12800 := (j 1).isLt
  have hw : IntOp.addi (IntOp.addi (IntOp.muli (BitVec.ofNat 32 n) 204800#32) (BitVec.ofNat 32 o))
      (iota .tc S3x12800 32 [1] iota_S3x12800_d1_w32 j) = BitVec.ofNat 32 (n * 204800 + o + (j 1).val) := by
    have hi : iota .tc S3x12800 32 [1] iota_S3x12800_d1_w32 j = BitVec.ofNat 32 (j 1).val :=
      congrArg (BitVec.ofNat 32) (show 0 * 12800 + (j 1).val = (j 1).val by omega)
    rw [hi]
    apply BitVec.eq_of_toNat_eq
    simp [IntOp.addi, IntOp.muli]
  show Scalar.select (IntOp.cmpi .slt (IntOp.addi (IntOp.addi (IntOp.muli (BitVec.ofNat 32 n) 204800#32) (BitVec.ofNat 32 o))
      (iota .tc S3x12800 32 [1] iota_S3x12800_d1_w32 j)) (BitVec.ofNat 32 1000000)) (diffAt x5 x6 o j) (Scalar.ofBits .f32 0x00000000#32) = _
  rw [hw]
  split
  · rename_i h
    rw [(WordCmp.cmpi_slt_ofNat_eq_one_iff (by omega) (by omega)).mpr h]; rfl
  · rename_i h
    rw [(WordCmp.cmpi_slt_ofNat_eq_zero_iff (by omega) (by omega)).mpr h]; rfl

/-- A later step's result reads the differences on the sixteen tiles only. -/
theorem next_congr {D D' : ℕ → FVec F S3x12800 .f32} (h : ∀ n < 16, D (12800 * n) = D' (12800 * n))
    (x4 : Vec F S12800x128 .bf16) (y : Vec F S1x1 .f32) : next D x4 y = next D' x4 y := by
  have hs : ∀ n ≤ 16, squares D n = squares D' n := fun n => by
    induction n with
    | zero => exact fun _ => rfl
    | succ n ih => intro hn; simp only [squares]; rw [ih (by omega), h n (by omega)]
  have hl : lhs D = lhs D' := funext fun j => by
    have hj : (j 0).val < 64 := (j 0).isLt
    unfold lhs; rw [h _ (by omega)]
  unfold next; rw [hs 16 le_rfl, hl]

end Cert.Proof.Step

end
-- ==== Proof.Found.lean ====
/-
  What the three runs of the body leave in the result's buffer, in the vocabulary of one step.
-/
module

public import proofs.«01_k».proof.Proof.Body
public import proofs.«01_k».proof.Proof.Step

@[expose] public section

set_option maxRecDepth 16384

noncomputable section

namespace Cert.Proof.Found

open Cert.KernelIdeal Cert.KernelIdeal.Gen
open Idealize.ShloMosaic Idealize.ShloMosaic.Tactic
open Cert.Proof.Body Cert.Proof.Step

variable {F : FTy → Type} [FloatOps F] [Named F]

theorem off_zero : (![0, 0] : Fin 2 → ℕ) = fun _ => 0 := by funext a; fin_cases a <;> rfl

/-- A load of a whole buffer is the block it holds. -/
theorem load_whole {sp : Space} {n0 n1 : ℕ} {e : EltTy} {M : Memref sig .tc sp ⟨2, ![n0, n1]⟩ e} (h : M.IsWhole)
    (x : Vec F ⟨2, ![n0, n1]⟩ e) (inb : ∀ a, (![0, 0] : Fin 2 → ℕ) a + (![n0, n1] : Fin 2 → ℕ) a ≤ (![n0, n1] : Fin 2 → ℕ) a) :
    View.readAt (Elt F) M.view (Rect.unit (s := ⟨2, ![n0, n1]⟩) ![0, 0] ![n0, n1] inb).toLoadRect (h.unread x) = x := by
  refine (View.readAt_eq_ld _ _ (Rect.unit (s := ⟨2, ![n0, n1]⟩) ![0, 0] ![n0, n1] inb)).trans ?_
  rw [h.read_unread]
  exact View.ld_unit_zero off_zero inb x

/-- One store over the whole of the result's buffer is what it holds. -/
theorem stored {M : Memref sig .tc .vmem S1x1 .f32} (f : M.view.ty.Contents (Elt F)) (w : Vec F S1x1 .f32)
    (inb : ∀ a, (![0, 0] : Fin 2 → ℕ) a + S1x1.size a ≤ S1x1.size a) :
    View.read (Elt F) M.view (M.view.writes (Elt F) f [⟨Rect.unit ![0, 0] S1x1.size inb, w⟩]) = w := by
  rw [View.read_writes_eq_canon _ _ _ (View.cover_of_tiled _ S1x1.size (by rfl))]
  exact View.canon_unit_zero off_zero inb w

/-- The scratch, once its sixteen stores cover it with the rows of `lhs D`, is `lhs D`. -/
theorem operand {M : Memref sig .tc .vmem S64x12800 .bf16} (D : ℕ → FVec F S3x12800 .f32) (L : List (View.Piece (Elt F) S64x12800 .bf16))
    (hL : ∀ p ∈ L, ∀ x, p.2 x = lhs D (p.1.emb x)) (hc : ∀ y, ∃ p ∈ L, y ∈ p.1.set)
    (inb : ∀ a, (![0, 0] : Fin 2 → ℕ) a + S64x12800.size a ≤ S64x12800.size a) :
    M.view.readCov L (Rect.unit ![0, 0] S64x12800.size inb).toLoadRect = lhs D := by
  have e : View.canon L = lhs D := funext fun y => View.canon_apply_of_pieces _ L hL y (hc y)
  rw [View.readCov_eq_canon', e]
  exact View.ld_unit_zero (Val := Elt F) (S := S64x12800) (e := .bf16) off_zero inb (lhs D)

/-- A store at row `o` of the rows of the tile with that place. -/
theorem piece (D : ℕ → FVec F S3x12800 .f32) (o : ℕ) (ho : o = 4 * (o / 4)) (w : FVec F S4x12800 .bf16)
    (hw : w = rows (D (12800 * (o / 4)))) (inb : ∀ a, (![o, 0] : Fin 2 → ℕ) a + S4x12800.size a ≤ S64x12800.size a) (x : S4x12800.Idx) :
    w x = lhs D ((Rect.unit (s := S64x12800) ![o, 0] S4x12800.size inb).emb x) := by
  rw [hw]; exact rows_apply D (o / 4) o ho inb x

section Runs

variable (c : Dev nD) (i : grid0.Coords)
  (M1 : Memref sig .tc .vmem S8x128 .f32) (h1 : M1.IsWhole) (M2 : Memref sig .tc .vmem S8x128 .f32) (h2 : M2.IsWhole)
  (M3 : Memref sig .tc .vmem S8x128 .i32) (h3 : M3.IsWhole) (M4 : Memref sig .tc .vmem S12800x128 .bf16) (h4 : M4.IsWhole)
  (M5 : Memref sig .tc .vmem S3x204800 .f32) (h5 : M5.IsWhole) (M6 : Memref sig .tc .vmem S3x204800 .f32) (h6 : M6.IsWhole)
  (M7 : Memref sig .tc .vmem S1x1 .f32) (h7 : M7.IsWhole) (M8 : Memref sig .tc .vmem S64x12800 .bf16) (h8 : M8.IsWhole)
  (x1 x2 : Vec F S8x128 .f32) (x3 : Vec F S8x128 .i32) (x4 : Vec F S12800x128 .bf16) (x5 x6 : Vec F S3x204800 .f32)

/-- What the runs found: the middle steps and the last add their share to what was there, the first starts the result. -/
theorem runs_eq (y : Vec F S1x1 .f32) :
    (∀ (hl : ¬ lastStep i = 1#1) (hc2 : ¬ k0_cond2 i = 1#1) (hc3 : k0_cond3 i = 1#1),
      (runMid c i M1 h1 M2 h2 M3 h3 M4 h4 M5 h5 M6 h6 M7 h7 M8 h8 x1 x2 x3 x4 x5 x6 hl hc2 hc3 y).1 = next (diffAt x5 x6) x4 y)
    ∧ (∀ (hl : ¬ lastStep i = 1#1) (hc2 : k0_cond2 i = 1#1) (hc3 : ¬ k0_cond3 i = 1#1),
      (runFirst c i M1 h1 M2 h2 M3 h3 M4 h4 M5 h5 M6 h6 M7 h7 M8 h8 x1 x2 x3 x4 x5 x6 hl hc2 hc3 y).1 = first (diffAt x5 x6) x1 x2 x3 x4)
    ∧ (∀ (hl : lastStep i = 1#1) (hc2 : ¬ k0_cond2 i = 1#1) (hc3 : k0_cond3 i = 1#1),
      (runLast c i M1 h1 M2 h2 M3 h3 M4 h4 M5 h5 M6 h6 M7 h7 M8 h8 x1 x2 x3 x4 x5 x6 hl hc2 hc3 y).1 = next (maskedAt (BitVec.ofNat 32 (i 0).val) x5 x6) x4 y) := by
  refine ⟨fun hl hc2 hc3 => ?mid, fun hl hc2 hc3 => ?first, fun hl hc2 hc3 => ?last⟩
  case' mid =>
    unfold runMid
    dsimp only
    sl_unfold_words
    rw [stored, load_whole h4, load_whole h7]
    refine congrArg₂ (fun a b => k0_pay13 a (k0_pay10 x4 b) y) ?_
      (operand (diffAt x5 x6) _ ?_ (View.cover_of_tiled _ S4x12800.size (by rfl)) _)
  case' first =>
    unfold runFirst
    dsimp only
    sl_unfold_words
    rw [stored, load_whole h1, load_whole h2, load_whole h3, load_whole h4]
    refine congrArg₂ (fun a b => k0_pay12 a (k0_pay10 x4 b) x3 x1 x2) ?_
      (operand (diffAt x5 x6) _ ?_ (View.cover_of_tiled _ S4x12800.size (by rfl)) _)
  case' last =>
    unfold runLast
    dsimp only
    sl_unfold_words
    rw [stored, load_whole h4, load_whole h7]
    refine congrArg₂ (fun a b => k0_pay13 a (k0_pay10 x4 b) y) ?_
      (operand (maskedAt (BitVec.ofNat 32 (i 0).val) x5 x6) _ ?_ (View.cover_of_tiled _ S4x12800.size (by rfl)) _)
  case mid.refine_1 | first.refine_1 =>
    simp only [load_tile h5, load_tile h6, Nat.reduceLeDiff, Nat.le_refl, Nat.zero_le, shapeCast_self, k0_pay9, k0_pay7, k0_pay5,
      squares, total, diffAt, Nat.reduceMul]
  case last.refine_1 =>
    simp only [load_tile h5, load_tile h6, Nat.reduceLeDiff, Nat.le_refl, Nat.zero_le, shapeCast_self, squares, total, maskedAt,
      diffAt, Nat.reduceMul]
    rfl
  all_goals
    simp only [List.forall_mem_cons]
    refine ⟨?_, ?_, ?_, ?_, ?_, ?_, ?_, ?_, ?_, ?_, ?_, ?_, ?_, ?_, ?_, ?_, ?_⟩
    on_goal 17 => simp
    all_goals
      refine piece _ _ (by norm_num) _ ?_ _
      simp only [shapeCast_self, k0_pay8, k0_pay7, k0_pay6, k0_pay5, k0_pay2]
      refine congrArg rows ?_
      simp only [load_tile h5, load_tile h6, Nat.reduceLeDiff, Nat.le_refl, Nat.zero_le, shapeCast_self, diffAt, maskedAt, Nat.reduceMul,
        Nat.reduceDiv]

end Runs

end Cert.Proof.Found

end
-- ==== Proof.Run.lean ====
/-
  The launch, over any arithmetic: the pipeline's proof data, the body's obligation at every step, the run with its
  arguments unchanged and every counter back at zero, and the result's one word.
-/
module

public import proofs.«01_k».proof.Proof.Found

@[expose] public section

set_option maxRecDepth 16384

noncomputable section

namespace Cert.Proof.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Proof.Body Cert.Proof.Step Cert.Proof.Found

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The steps -/

/-- The kernel's tests at a step. -/
theorem tests (t : Fin cfg0.N) : (k0_cond2 (grid0.coords t) = 1#1 ↔ t.val = 0) ∧ (k0_cond3 (grid0.coords t) = 1#1 ↔ t.val ≠ 0)
    ∧ (lastStep (grid0.coords t) = 1#1 ↔ t.val = 4) ∧ (t.val = 4 → ((grid0.coords t) 0).val = 4) ∧ t.val < 5 := by
  rcases fin_N0 t with rfl | rfl | rfl | rfl | rfl <;> decide

/-- The reference and the predicted forces' blocks at a step, with zero past the last atom. -/
def blkR (c : Dev nD) (t : Fin cfg0.N) : Vec F S3x204800 .f32 :=
  win0_4.fill (grid0.coords t) (fun _ => Scalar.ofBits .f32 0x00000000#32) (iblk m c 4 t)
def blkP (c : Dev nD) (t : Fin cfg0.N) : Vec F S3x204800 .f32 :=
  win0_5.fill (grid0.coords t) (fun _ => Scalar.ofBits .f32 0x00000000#32) (iblk m c 5 t)

/-- A step's differences: masked at the last step only. -/
def diffs (c : Dev nD) (t : Fin cfg0.N) : ℕ → FVec F S3x12800 .f32 :=
  if t.val = 4 then maskedAt 4#32 (blkR m c t) (blkP m c t) else diffAt (blkR m c t) (blkP m c t)

/-- Step `n` as a point of the grid. -/
def pt (n : ℕ) : Fin cfg0.N := ⟨n % 5, lt_of_lt_of_eq (Nat.mod_lt _ (by decide)) N_0.symm⟩

theorem pt_val (t : Fin cfg0.N) : pt t.val = t := Fin.ext (Nat.mod_eq_of_lt (tests t).2.2.2.2)

/-- The result's word after step `n`. -/
def out (c : Dev nD) : ℕ → Vec F S1x1 .f32
  | 0 => first (diffs m c (pt 0)) (iblk m c 0 (pt 0)) (iblk m c 1 (pt 0)) (iblk m c 2 (pt 0)) (iblk m c 3 (pt 0))
  | n + 1 => next (diffs m c (pt (n + 1))) (iblk m c 3 (pt (n + 1))) (out c n)

/-- Before the last step a block lies inside the array, so what the buffer held before does not matter. -/
theorem fill_inside (t : Fin cfg0.N) (ht : t.val ≠ 4) {α : Type} (d d' : S3x204800.Idx → α) :
    (∀ g, win0_4.fill (grid0.coords t) d g = win0_4.fill (grid0.coords t) d' g)
    ∧ (∀ g, win0_5.fill (grid0.coords t) d g = win0_5.fill (grid0.coords t) d' g) := by
  refine ⟨fun g => Pipeline.fill_of_clip_none (cfg := cfg0) 4 _ ?_ d d' g, fun g => Pipeline.fill_of_clip_none (cfg := cfg0) 5 _ ?_ d d' g⟩ <;>
  · rcases fin_N0 t with rfl | rfl | rfl | rfl | rfl
    all_goals first | exact absurd rfl ht | decide

/-- At the last step the columns before the last atom are the block's. -/
theorem fill_last (t : Fin cfg0.N) (ht : t.val = 4) {α : Type} (d d' : S3x204800.Idx → α) (j : S3x204800.Idx) (hj : (j 1).val < 180800) :
    (∀ g, win0_4.fill (grid0.coords t) d g j = win0_4.fill (grid0.coords t) d' g j)
    ∧ (∀ g, win0_5.fill (grid0.coords t) d g j = win0_5.fill (grid0.coords t) d' g j) := by
  have h0 : (j 0).val < 3 := (j 0).isLt
  obtain rfl : t = t0_4 := Fin.ext ht
  have e4 : win0_4.moved (grid0.coords t0_4) j = true := (win0_4.moved_iff _ j).mpr fun a => by
    match a with
    | ⟨0, _⟩ => exact lt_of_lt_of_eq h0 (show 3 = win0_4.xsize (grid0.coords t0_4) (0 : Fin 2) by decide)
    | ⟨1, _⟩ => exact lt_of_lt_of_eq hj (show 180800 = win0_4.xsize (grid0.coords t0_4) (1 : Fin 2) by decide)
  have e5 : win0_5.moved (grid0.coords t0_4) j = true := (win0_5.moved_iff _ j).mpr fun a => by
    match a with
    | ⟨0, _⟩ => exact lt_of_lt_of_eq h0 (show 3 = win0_5.xsize (grid0.coords t0_4) (0 : Fin 2) by decide)
    | ⟨1, _⟩ => exact lt_of_lt_of_eq hj (show 180800 = win0_5.xsize (grid0.coords t0_4) (1 : Fin 2) by decide)
  constructor <;> intro g
  · unfold Window.fill; rw [dif_pos e4, dif_pos e4]
  · unfold Window.fill; rw [dif_pos e5, dif_pos e5]

/-- So the masked differences do not depend on what the buffers held past the array. -/
theorem masked_fill (t : Fin cfg0.N) (ht : t.val = 4) (d4 d4' d5 d5' : Vec F S3x204800 .f32) (g4 g5) (n : ℕ) (hn : n < 16) :
    maskedAt 4#32 (win0_4.fill (grid0.coords t) d4 g4) (win0_5.fill (grid0.coords t) d5 g5) (12800 * n)
      = maskedAt 4#32 (win0_4.fill (grid0.coords t) d4' g4) (win0_5.fill (grid0.coords t) d5' g5) (12800 * n) := by
  funext j
  rw [show (4#32 : BitVec 32) = BitVec.ofNat 32 4 from rfl, maskedAt_apply 4 _ le_rfl (by omega), maskedAt_apply 4 _ le_rfl (by omega)]
  split
  · rename_i h
    have hj : ((tileIdx (12800 * n) j) 1).val < 180800 :=
      lt_of_le_of_lt (Nat.mod_le (12800 * n + (j 1).val) 204800) (by omega)
    exact congrArg₂ FloatOps.subf ((fill_last t ht d5 d5' _ hj).2 g5) ((fill_last t ht d4 d4' _ hj).1 g4)
  · rfl

/-- The body at a step leaves the step's word, whatever the two force buffers held past the array. -/
theorem step (c : Dev nD) (t : Fin cfg0.N) (d4 d5 : Vec F S3x204800 .f32) (y : Vec F S1x1 .f32)
    (hy : t.val ≠ 0 → y = out m c (t.val - 1))
    (M1 : Memref sig .tc .vmem S8x128 .f32) (h1 : M1.IsWhole) (M2 : Memref sig .tc .vmem S8x128 .f32) (h2 : M2.IsWhole)
    (M3 : Memref sig .tc .vmem S8x128 .i32) (h3 : M3.IsWhole) (M4 : Memref sig .tc .vmem S12800x128 .bf16) (h4 : M4.IsWhole)
    (M5 : Memref sig .tc .vmem S3x204800 .f32) (h5 : M5.IsWhole) (M6 : Memref sig .tc .vmem S3x204800 .f32) (h6 : M6.IsWhole)
    (M7 : Memref sig .tc .vmem S1x1 .f32) (h7 : M7.IsWhole) (M8 : Memref sig .tc .vmem S64x12800 .bf16) (h8 : M8.IsWhole) :
    Triple c (grid0.coords t) M1 h1 M2 h2 M3 h3 M4 h4 M5 h5 M6 h6 M7 h7 M8 h8 (iblk m c 0 t) (iblk m c 1 t) (iblk m c 2 t) (iblk m c 3 t)
      (win0_4.fill (grid0.coords t) d4 (iblk m c 4 t)) (win0_5.fill (grid0.coords t) d5 (iblk m c 5 t)) y (out m c t.val) := by
  obtain ⟨hc2, hc3, hl, h4n, hlt⟩ := tests t
  have found := runs_eq c (grid0.coords t) M1 h1 M2 h2 M3 h3 M4 h4 M5 h5 M6 h6 M7 h7 M8 h8 (iblk m c 0 t) (iblk m c 1 t) (iblk m c 2 t) (iblk m c 3 t)
    (win0_4.fill (grid0.coords t) d4 (iblk m c 4 t)) (win0_5.fill (grid0.coords t) d5 (iblk m c 5 t)) y
  have plain : t.val ≠ 4 → diffAt (win0_4.fill (grid0.coords t) d4 (iblk m c 4 t)) (win0_5.fill (grid0.coords t) d5 (iblk m c 5 t)) = diffs m c t :=
    fun h => by
      unfold diffs blkR blkP
      rw [if_neg h, (fill_inside t h d4 _).1, (fill_inside t h d5 _).2]
  by_cases h0 : t.val = 0
  · have e := found.2.1 (fun h => by have := hl.mp h; omega) (hc2.mpr h0) (fun h => hc3.mp h h0)
    have hs : out m c t.val = first (diffs m c t) (iblk m c 0 t) (iblk m c 1 t) (iblk m c 2 t) (iblk m c 3 t) := by
      have ht : pt 0 = t := by rw [← h0]; exact pt_val t
      rw [h0]
      show first (diffs m c (pt 0)) (iblk m c 0 (pt 0)) (iblk m c 1 (pt 0)) (iblk m c 2 (pt 0)) (iblk m c 3 (pt 0)) = _
      rw [ht]
    rw [hs, ← plain (by omega), ← e]
    exact triple_of_raw _ _ _ _ _ _ _ _ _ _ _ _ _ _ _ _ _ _ _ _ _ _ _ _ (Subtype.property _)
  · have hs : out m c t.val = next (diffs m c t) (iblk m c 3 t) y := by
      obtain ⟨n, hn⟩ : ∃ n, t.val = n + 1 := ⟨t.val - 1, by omega⟩
      have ht : pt (n + 1) = t := by rw [← hn]; exact pt_val t
      rw [hy h0, hn]
      show next (diffs m c (pt (n + 1))) (iblk m c 3 (pt (n + 1))) (out m c n) = _
      rw [ht]; rfl
    by_cases h4 : t.val = 4
    · have e := found.2.2 (hl.mpr h4) (fun h => h0 (hc2.mp h)) (hc3.mpr h0)
      rw [h4n h4] at e
      have : next (diffs m c t) (iblk m c 3 t) y = next (maskedAt 4#32 (win0_4.fill (grid0.coords t) d4 (iblk m c 4 t))
          (win0_5.fill (grid0.coords t) d5 (iblk m c 5 t))) (iblk m c 3 t) y := next_congr (fun n hn => by
        unfold diffs blkR blkP
        rw [if_pos h4]
        exact masked_fill t h4 _ _ _ _ _ _ n hn) _ _
      rw [hs, this]
      refine (show _ = _ from e) ▸ ?_
      exact triple_of_raw _ _ _ _ _ _ _ _ _ _ _ _ _ _ _ _ _ _ _ _ _ _ _ _ (Subtype.property _)
    · have e := found.1 (fun h => h4 (hl.mp h)) (fun h => h0 (hc2.mp h)) (hc3.mpr h0)
      rw [hs, ← plain h4, ← e]
      exact triple_of_raw _ _ _ _ _ _ _ _ _ _ _ _ _ _ _ _ _ _ _ _ _ _ _ _ (Subtype.property _)

/-! ## The pipeline's proof data -/

/-- The proof data on core `c`: the arrays as the region finds them; after the body each input's buffer at its block and
    the result's at the step's word; the invariant the scratch and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => blkR m c t
    | ⟨5, _⟩ => blkP m c t
    | ⟨6, _⟩ => out m c t.val
  Φ _ := Pipeline.ΦA spec0 c
  q _ := fullShare
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = blkR m c t := by dsimp only [dats]
theorem after0_5 (c : Dev nD) (t : Fin cfg0.N) : (dats m 0 c).after 5 t = blkP m c t := by dsimp only [dats]
theorem after0_6 (c : Dev nD) (t : Fin cfg0.N) : (dats m 0 c).after 6 t = out m c t.val := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
/-- The two force windows are fetched at every step: the block inside the array, `d` past it. -/
theorem before0_4 (c : Dev nD) (t : Fin cfg0.N) (d) : (dats m 0 c).before 4 t d = win0_4.fill (grid0.coords t) d (iblk m c 4 t) :=
  ((dats m 0 c).before_fetched 4 t (fetch0_4 t) d).trans (by unfold Dat.fetched Dat.blockOf iblk; rw [A_eq])
theorem before0_5 (c : Dev nD) (t : Fin cfg0.N) (d) : (dats m 0 c).before 5 t d = win0_5.fill (grid0.coords t) d (iblk m c 5 t) :=
  ((dats m 0 c).before_fetched 5 t (fetch0_5 t) d).trans (by unfold Dat.fetched Dat.blockOf iblk; rw [A_eq])

/-- The result's window is stored at every step. -/
theorem idle0_6 : ∀ i : grid0.Coords, cfg0.idle 6 i = false := by decide

/-- After the first step the result's buffer holds the word the step before left. -/
theorem before0_6 (c : Dev nD) (t : Fin cfg0.N) (d) (ht : t.val ≠ 0) : (dats m 0 c).before 6 t d = out m c (t.val - 1) := by
  have hlt := (tests t).2.2.2.2
  rw [(dats m 0 c).before_out_kept 6 rfl t ht (by
    rw [Bool.eq_false_iff]; intro h
    have := (flush0_6 ⟨t.val - 1, Nat.lt_of_le_of_lt (Nat.sub_le _ _) t.isLt⟩).mp h
    have : (t.val - 1) % 5 = 4 := this
    omega) idle0_6 (fun _ _ => rfl) d, after0_6]

/-! ## The body's obligation -/

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligationLoose (dats (F := F) m 0 c) (defs₀ (F := F)) Variants.none () Set.univ := fun t => by
  rw [bigSep_W0, bigSep_W0, defs₀_row]
  simp only
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl]
  unfold Pipeline.ΦA
  rw [scopedRest0_eq]
  iintro ⟨⟨⟨%s8, H8⟩, HP⟩, Ho, ⟨%d0, H0⟩, ⟨%d1, H1⟩, ⟨%d2, H2⟩, ⟨%d3, H3⟩, ⟨%d4, H4⟩, ⟨%d5, H5⟩, ⟨%d6, H6⟩⟩
  rw [before0_0 m c t d0, before0_1 m c t d1, before0_2 m c t d2, before0_3 m c t d3, before0_4 m c t d4, before0_5 m c t d5]
  unfold bodyAt0
  rw [after0_0, after0_1, after0_2, after0_3, after0_4, after0_5, after0_6, show idle0 6 (grid0.coords t) = false from idle0_6 _]
  have T := (step m c t d4 d5 ((dats m 0 c).before 6 t d6) (before0_6 m c t d6)
    (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_3.stage (cfg0.slots t 3)) (hstage0_3 ((cfg0.slots t 3).cast nbuf0_3))
    (win0_4.stage (cfg0.slots t 4)) (hstage0_4 ((cfg0.slots t 4).cast nbuf0_4))
    (win0_5.stage (cfg0.slots t 5)) (hstage0_5 ((cfg0.slots t 5).cast nbuf0_5))
    (win0_6.stage (cfg0.slots t 6)) (hstage0_6 ((cfg0.slots t 6).cast nbuf0_6))
    (Memref.whole cc0_scratch0) (Memref.isWhole_whole _) Set.univ)
  simp only [owns_whole_eq] at T
  iapply (T _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H8]
  · iexists s8; iexists s8; isplitr
    · ipureintro; rfl
    · iexact H8
  iintro ⟨G0, G1, G2, G3, G4, G5, G6, ⟨%s, %f, -, G8⟩⟩
  isplitl [G8 HP]
  · isplitl [G8]
    · iexists f; iexact G8
    · iexact HP
  isplitl [Ho]; · iexact Ho
  isplitl [G0]; · iexact G0
  isplitl [G1]; · iexact G1
  isplitl [G2]; · iexact G2
  isplitl [G3]; · iexact G3
  isplitl [G4]
  · iexists d4
    rw [show (win0 4).cut (grid0.coords t) (blkR m c t) = iblk m c 4 t from win0_4.cut_fill _ _ _]
    iexact G4
  isplitl [G5]
  · iexists d5
    rw [show (win0 5).cut (grid0.coords t) (blkP m c t) = iblk m c 5 t from win0_5.cut_fill _ _ _]
    iexact G5
  iexact G6

/-! ## The launch -/

set_option backward.isDefEq.respectTransparency.types false in
/-- Every run ends, with the arrays at what the steps leave, every other buffer at what the host lines leave, and every
    semaphore counter of the machine at zero. -/
theorem run_main_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := body_obligation m) (hshare := fun c => (dats m 0 c).share_full fun _ => rfl) (howed := fun _ _ => rfl)
    (V₀ := V0 m) (opss := [hostOps1]) (hsub := sfx_sub) (hfresh := sfx_fresh) (hkeep := sfx_keeps)
    (hmain := hmain m Variants.none) (hA := A_eq m) (hΦ := fun _ _ => rfl) (hQ' := fun _ h => h)

/-- The frame: every run ends with the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) ((θ_run defs _ _).mono (fun _ h => h.1) (run_main_quiescent m ρ)))
    ((θ_run defs _ _).mono (fun _ h => h.2) (run_main_quiescent m ρ))

end Cert.Proof.Run

end
-- ==== Proof.Frames.lean ====
/-
  The frames of the kernel and of its ideal program, from the one run of the body.

  The ideal program differs from the kernel in two constants only: it names them. Read over the words, with each named
  constant the literal that stands in the kernel's text, it is the kernel.
-/
module

public import proofs.«01_k».proof.Defs
public import proofs.«01_k».proof.Proof.Gen.Kernel
public import proofs.«01_k».proof.Proof.Gen.KernelIdeal
public import proofs.«01_k».proof.Proof.Run

@[expose] public section

set_option maxRecDepth 16384

noncomputable section

namespace Cert.Proof.Frames

attribute [local instance] Cert.Kernel.Gen.facts Cert.KernelIdeal.Gen.facts

open Idealize.ShloMosaic Idealize.SL.Sem

/-- Over the words a named constant is the literal that stands in the kernel's text. -/
local instance : Named Bits where
  named _ _ {φ} bits := Scalar.ofBits φ bits

/-- The two bodies are one. -/
theorem body_eq : @Cert.Kernel.cc0__loss_body Bits _ _ = @Cert.KernelIdeal.cc0__loss_body Bits _ _ _ := by
  funext i M1 h1 M2 h2 M3 h3 M4 h4 M5 h5 M6 h6 M7 h7 M8 h8
  rfl

/-- So are the two tables of bodies, -/
theorem table_eq : Cert.Kernel.defs₀ (F := Bits) = Cert.KernelIdeal.defs₀ (F := Bits) := by
  unfold Cert.Kernel.defs₀ Cert.KernelIdeal.defs₀
  rw [body_eq]
  refine congrArg Defs.onTc (funext fun l => funext fun x => ?_)
  match l, x with
  | 0, (t, s) => rfl
  | ⟨n + 1, h⟩, _ => exact absurd h (Nat.not_lt.2 (Nat.le_add_left _ _))

/-- and the two programs' definitions. -/
theorem defs_eq : Cert.Kernel.defs (F := Bits) = Cert.KernelIdeal.defs (F := Bits) :=
  congrArg (Pipeline.defs (Cert.Kernel.pcfgs (F := Bits))) table_eq

/-- The kernel's frame: the ideal program read over the words is the kernel. -/
theorem kernel : Cert.quiescent_Kernel (hKernel := Cert.Kernel.Gen.facts) := by
  intro m ρ _
  rw [defs_eq]
  exact Run.frame (F := Bits) m ρ

/-- The ideal program's frame. -/
theorem ideal : Cert.quiescent_KernelIdeal (hKernelIdeal := Cert.KernelIdeal.Gen.facts) := fun m ρ _ =>
  Run.frame (F := Ideal) m ρ

end Cert.Proof.Frames

end
-- ==== Proof.Algebra.lean ====
/-
  The mathematics of the loss over the extended reals, with no program in it: squares of differences, sums taken in
  blocks, and the sums over steps, tiles and molecules that kernel and reference take in different orders.
-/
module

public import Idealize.ShloMosaic.PureOps.Ideal
public import Idealize.ShloMosaic.PureOps.Ideal.Laws

@[expose] public section

noncomputable section

namespace Cert.Proof.Algebra

open Finset

/-! ## Squares of differences -/

/-- An infinite extended real. -/
def Inf (x : EReal) : Prop := x = ⊤ ∨ x = ⊥

theorem not_inf_coe (r : ℝ) : ¬ Inf (r : EReal) := fun h => h.elim (EReal.coe_ne_top r) (EReal.coe_ne_bot r)

/-- A sum of two is infinite when one of them is. -/
theorem inf_add (a b : EReal) : Inf (a + b) ↔ Inf a ∨ Inf b := by
  induction a <;> induction b <;> simp [Inf, ← EReal.coe_add]

/-- So is a difference. -/
theorem inf_sub (a b : EReal) : Inf (a - b) ↔ Inf a ∨ Inf b := by
  induction a <;> induction b <;> simp [Inf, ← EReal.coe_sub]

theorem inf_sum (s : Finset ℕ) (f : ℕ → EReal) : Inf (∑ i ∈ s, f i) ↔ ∃ i ∈ s, Inf (f i) := by
  classical
  induction s using Finset.induction_on with
  | empty => simp [Inf]
  | insert a s ha ih => rw [Finset.sum_insert ha, inf_add, ih]; simp

/-- The square of an infinite one is positive infinity. -/
theorem sq_of_inf {a : EReal} (h : Inf a) : a * a = ⊤ := by
  rcases h with rfl | rfl <;> simp

/-- A real one is its real part. -/
theorem coe_of_not_inf {a : EReal} (h : ¬ Inf a) : ((a.toReal : ℝ) : EReal) = a :=
  EReal.coe_toReal (fun e => h (.inl e)) (fun e => h (.inr e))

theorem coe_sum (s : Finset ℕ) (f : ℕ → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The square of a difference does not depend on its direction. -/
theorem sq_sub_comm (a b : EReal) : (a - b) * (a - b) = (b - a) * (b - a) := by
  by_cases h : Inf a ∨ Inf b
  · rw [sq_of_inf ((inf_sub a b).mpr h), sq_of_inf ((inf_sub b a).mpr h.symm)]
  · obtain ⟨ha, hb⟩ := not_or.mp h
    rw [← coe_of_not_inf ha, ← coe_of_not_inf hb, ← EReal.coe_sub, ← EReal.coe_sub, ← EReal.coe_mul, ← EReal.coe_mul]
    exact congrArg _ (by ring)

/-- The square of a sum of differences is that of the difference of the sums: where an infinity is among the terms both
    are positive infinity. -/
theorem sq_sum_sub (s : Finset ℕ) (p r : ℕ → EReal) :
    (∑ i ∈ s, (p i - r i)) * (∑ i ∈ s, (p i - r i)) = ((∑ i ∈ s, p i) - ∑ i ∈ s, r i) * ((∑ i ∈ s, p i) - ∑ i ∈ s, r i) := by
  by_cases h : ∃ i ∈ s, Inf (p i) ∨ Inf (r i)
  · obtain ⟨i, hi, hpr⟩ := h
    rw [sq_of_inf ((inf_sum s _).mpr ⟨i, hi, (inf_sub _ _).mpr hpr⟩),
      sq_of_inf ((inf_sub _ _).mpr (hpr.imp (fun h => (inf_sum s p).mpr ⟨i, hi, h⟩) (fun h => (inf_sum s r).mpr ⟨i, hi, h⟩)))]
  · have hp : ∀ i ∈ s, p i = ((p i).toReal : EReal) := fun i hi => (coe_of_not_inf fun e => h ⟨i, hi, .inl e⟩).symm
    have hr : ∀ i ∈ s, r i = ((r i).toReal : EReal) := fun i hi => (coe_of_not_inf fun e => h ⟨i, hi, .inr e⟩).symm
    have e : ∑ i ∈ s, (p i - r i) = (∑ i ∈ s, p i) - ∑ i ∈ s, r i := by
      rw [Finset.sum_congr rfl fun i hi => show p i - r i = (((p i).toReal - (r i).toReal : ℝ) : EReal) by
          rw [EReal.coe_sub, ← hp i hi, ← hr i hi],
        Finset.sum_congr rfl hp, Finset.sum_congr rfl hr, ← coe_sum, ← coe_sum, ← coe_sum, ← EReal.coe_sub, Finset.sum_sub_distrib]
    rw [e]

/-! ## Sums in blocks -/

/-- `a` blocks of `b` terms are the first `b a` terms. -/
theorem sum_blocks (f : ℕ → EReal) (a b : ℕ) : ∑ i ∈ range a, ∑ j ∈ range b, f (b * i + j) = ∑ n ∈ range (b * a), f n := by
  induction a with
  | zero => simp
  | succ a ih => rw [sum_range_succ, ih, Nat.mul_succ, sum_range_add]

/-- Terms past the `n`th that are zero drop out. -/
theorem sum_cut (f : ℕ → EReal) (n k : ℕ) (h : ∀ i, n ≤ i → f i = 0) : ∑ i ∈ range (n + k), f i = ∑ i ∈ range n, f i := by
  rw [sum_range_add, Finset.sum_eq_zero (s := range k) fun i _ => h _ (Nat.le_add_right n i), add_zero]

/-- A nonnegative real factor goes into a sum. -/
theorem mul_sum_real {c : EReal} (h0 : 0 ≤ c) (ht : c ≠ ⊤) (s : Finset ℕ) (f : ℕ → EReal) : c * ∑ i ∈ s, f i = ∑ i ∈ s, c * f i := by
  classical
  induction s using Finset.induction_on with
  | empty => simp
  | insert a s ha ih => rw [Finset.sum_insert ha, Finset.sum_insert ha, EReal.left_distrib_of_nonneg_of_ne_top h0 ht, ih]

/-! ## The kernel's sums -/

/-- One where column `j` belongs to molecule `k` of a tile, else zero. -/
def member (j k : ℕ) : EReal := if j / 100 = k then 1 else 0

/-- The left operand's row `r` at step `t`: coordinate `r % 4` of tile `r / 4`'s differences, and a row of zeros. -/
def row (d : ℕ → ℕ → EReal) (t r j : ℕ) : EReal :=
  if r % 4 < 3 then d (r % 4) (204800 * t + (12800 * (r / 4) + j)) else 0

/-- The sum of step `t`'s squares. -/
def forces (d : ℕ → ℕ → EReal) (t : ℕ) : EReal :=
  ∑ c ∈ range 3, ∑ j ∈ range 12800, ∑ u ∈ range 16, d c (204800 * t + (12800 * u + j)) * d c (204800 * t + (12800 * u + j))

/-- The product of the left operand's row `r` with the column of molecule `k`. -/
def dotted (d : ℕ → ℕ → EReal) (t r k : ℕ) : EReal := ∑ j ∈ range 12800, row d t r j * member j k

/-- The sum of the product's squares at step `t`. -/
def molecules (d : ℕ → ℕ → EReal) (t : ℕ) : EReal :=
  ∑ r ∈ range 64, ∑ k ∈ range 128, dotted d t r k * dotted d t r k

/-- The sum of molecule `q`'s differences. -/
def molecule (d : ℕ → ℕ → EReal) (c q : ℕ) : EReal := ∑ i ∈ range 100, d c (100 * q + i)

theorem dotted_eq (d : ℕ → ℕ → EReal) (t r k : ℕ) (hk : k < 128) :
    dotted d t r k = if r % 4 < 3 then molecule d (r % 4) (128 * (16 * t + r / 4) + k) else 0 := by
  have e : dotted d t r k = ∑ i ∈ range 100, row d t r (100 * k + i) := by
    unfold dotted
    rw [show range 12800 = range (100 * 128) from rfl, ← sum_blocks (fun j => row d t r j * member j k) 128 100]
    have hm : ∀ q, ∀ i ∈ range 100, row d t r (100 * q + i) * member (100 * q + i) k = if q = k then row d t r (100 * q + i) else 0 :=
      fun q i hi => by
        have hi' : i < 100 := Finset.mem_range.mp hi
        unfold member
        rw [show (100 * q + i) / 100 = q by omega]
        split
        · rw [mul_one]
        · rw [mul_zero]
    rw [Finset.sum_eq_single k]
    · exact Finset.sum_congr rfl fun i hi => by rw [hm k i hi, if_pos rfl]
    · intro q _ hq
      exact Finset.sum_eq_zero fun i hi => by rw [hm q i hi, if_neg hq]
    · intro h; exact absurd (Finset.mem_range.mpr hk) h
  rw [e]
  unfold row molecule
  split
  · exact Finset.sum_congr rfl fun i _ => congrArg (d (r % 4)) (by omega)
  · exact Finset.sum_eq_zero fun _ _ => rfl

variable (d : ℕ → ℕ → EReal) (hd : ∀ c n, 1000000 ≤ n → d c n = 0)

include hd

/-- The steps' sums of squares make up the sum over all atoms. -/
theorem forces_total : ∑ t ∈ range 5, forces d t = ∑ c ∈ range 3, ∑ n ∈ range 1000000, d c n * d c n := by
  unfold forces
  rw [Finset.sum_comm]
  refine Finset.sum_congr rfl fun c _ => ?_
  rw [← sum_cut (fun n => d c n * d c n) 1000000 24000 fun n hn => by rw [hd c n hn, mul_zero],
    show 1000000 + 24000 = 204800 * 5 from rfl, ← sum_blocks (fun n => d c n * d c n) 5 204800]
  refine Finset.sum_congr rfl fun t _ => ?_
  rw [Finset.sum_comm, show range 204800 = range (12800 * 16) from rfl,
    ← sum_blocks (fun n => d c (204800 * t + n) * d c (204800 * t + n)) 16 12800]

/-- The steps' sums over their molecules make up the sum over all molecules. -/
theorem molecules_total : ∑ t ∈ range 5, molecules d t
    = ∑ c ∈ range 3, ∑ q ∈ range 10000, molecule d c q * molecule d c q := by
  have hz : ∀ c q, 10000 ≤ q → molecule d c q = 0 := fun c q hq =>
    Finset.sum_eq_zero fun i _ => hd c _ (by omega)
  have hs : ∀ t, molecules d t = ∑ c ∈ range 3, ∑ u ∈ range 16, ∑ k ∈ range 128,
      molecule d c (128 * (16 * t + u) + k) * molecule d c (128 * (16 * t + u) + k) := fun t => by
    unfold molecules
    rw [show range 64 = range (4 * 16) from rfl, ← sum_blocks (fun r => ∑ k ∈ range 128, dotted d t r k * dotted d t r k) 16 4,
      Finset.sum_comm, sum_range_succ _ 3]
    have h3 : ∑ u ∈ range 16, ∑ k ∈ range 128, dotted d t (4 * u + 3) k * dotted d t (4 * u + 3) k = 0 :=
      Finset.sum_eq_zero fun u _ => Finset.sum_eq_zero fun k hk => by
        rw [dotted_eq d t _ k (Finset.mem_range.mp hk), if_neg (by omega), mul_zero]
    rw [h3, add_zero]
    refine Finset.sum_congr rfl fun c hc => Finset.sum_congr rfl fun u _ => Finset.sum_congr rfl fun k hk => ?_
    have hc' : c < 3 := Finset.mem_range.mp hc
    rw [dotted_eq d t _ k (Finset.mem_range.mp hk), if_pos (by omega), show (4 * u + c) % 4 = c by omega,
      show (4 * u + c) / 4 = u by omega]
  rw [Finset.sum_congr rfl fun t _ => hs t, Finset.sum_comm]
  refine Finset.sum_congr rfl fun c _ => ?_
  rw [← sum_cut (fun q => molecule d c q * molecule d c q) 10000 240 fun q hq => by rw [hz c q hq, mul_zero],
    show 10000 + 240 = 128 * (16 * 5) from rfl, ← sum_blocks (fun q => molecule d c q * molecule d c q) (16 * 5) 128,
    ← sum_blocks (fun u => ∑ k ∈ range 128, molecule d c (128 * u + k) * molecule d c (128 * u + k)) 5 16]

end Cert.Proof.Algebra

end
-- ==== Proof.Sums.lean ====
/-
  The kernel's word over the extended reals: each step's two sums of squares as the sums over coordinates, columns and
  tiles, the energies' sum, and the five steps together as the loss of a table of differences.
-/
module

public import proofs.«01_k».proof.Proof.Step
public import proofs.«01_k».proof.Proof.Algebra
public import Idealize.ShloMosaic.Lib.IdealHost

@[expose] public section

set_option maxRecDepth 16384

noncomputable section

namespace Cert.Proof.Sums

open Cert.KernelIdeal Cert.KernelIdeal.Gen
open Idealize.ShloMosaic
open Cert.Proof.Step Cert.Proof.Algebra
open Finset (range)

/-- A sum over a two-axis array whose entries are a function of the coordinates. -/
theorem sum_grid {n0 n1 : ℕ} (f : (⟨2, ![n0, n1]⟩ : Shape).Idx → EReal) (g : ℕ → ℕ → EReal)
    (h : ∀ j, f j = g (j 0).val (j 1).val) : ∑ j, f j = ∑ a ∈ range n0, ∑ b ∈ range n1, g a b := by
  rw [ValueIdx.sum_idx2, ← Fin.sum_univ_eq_sum_range (fun a => ∑ b ∈ range n1, g a b)]
  refine Finset.sum_congr rfl fun a _ => ?_
  rw [← Fin.sum_univ_eq_sum_range (fun b => g a b)]
  exact Finset.sum_congr rfl fun b _ => h _

/-- A change of shape keeps the sum. -/
theorem sum_cast {s t : Shape} (x : s.Idx → EReal) (h : s.ShapeCasts t) : ∑ j, shapeCast t x h j = ∑ i, x i :=
  Equiv.sum_comp (Shape.reshapeEquiv h) x

/-- A sum over both axes of a block, taken under a leading axis of one. -/
theorem reduce_total {s t : Shape} {axes : List (Fin t.rank)} (x : FVec Ideal s .f32) (hc : s.ShapeCasts t) (h : t.Reduces axes S1)
    (j : S1.Idx) : multiReduction (F := Ideal) .add axes S1 (shapeCast t x hc) 0x00000000#32 h (.inl rfl) rfl j = ∑ i, x i :=
  (Ideal.multiReduction_add_total (shapeCast t x hc) 0x00000000#32 h (fun b => by match b with | ⟨0, _⟩ => rfl) (.inl rfl) rfl j).trans
    (sum_cast x hc)

/-- The sum of a tile's entries is their sum. -/
theorem total_eq (f : FVec Ideal S3x12800 .f32) : total f = ∑ i, f i :=
  reduce_total f shapeCasts_S3x12800_S1x3x12800 reduces_S1x3x12800_S1 _

/-- The running sum of squares at an entry. -/
theorem squares_apply (D : ℕ → FVec Ideal S3x12800 .f32) (n : ℕ) (j : S3x12800.Idx) :
    squares D n j = ∑ u ∈ range n, D (12800 * u) j * D (12800 * u) j := by
  induction n with
  | zero => exact Ideal.ofBits_zero_f32
  | succ n ih =>
    rw [Finset.sum_range_succ, ← ih]
    rfl

section
variable (D : ℕ → FVec Ideal S3x12800 .f32) (d : ℕ → ℕ → EReal) (t : ℕ)
  (hD : ∀ u < 16, ∀ j, D (12800 * u) j = d (j 0).val (204800 * t + (12800 * u + (j 1).val)))
  (x4 : Vec Ideal S12800x128 .bf16) (h4 : ∀ j, x4 j = member (j 0).val (j 1).val)
include hD

/-- The step's sum of squares. -/
theorem total_squares : total (squares D 16) = forces d t := by
  rw [total_eq]
  refine sum_grid _ (fun c j => ∑ u ∈ range 16, d c (204800 * t + (12800 * u + j)) * d c (204800 * t + (12800 * u + j))) fun j => ?_
  rw [squares_apply]
  exact Finset.sum_congr rfl fun u hu => by rw [hD u (Finset.mem_range.mp hu)]

/-- The left operand's entry. -/
theorem lhs_apply (j : S64x12800.Idx) : lhs D j = row d t (j 0).val (j 1).val := by
  have h0 : (j 0).val < 64 := (j 0).isLt
  have h1 : (j 1).val < 12800 := (j 1).isLt
  unfold row
  split
  · rename_i h
    refine (concatenate_pair_apply_left (t := S4x12800) (s₁ := S3x12800) (s₂ := S1x12800) (0 : Fin 2) (D (12800 * ((j 0).val / 4)))
      (broadcast S1x12800 (Scalar.ofBits (F := Ideal) .f32 0x00000000#32)) concatenates_S3x12800_S1x12800_S4x12800_d0 _ rfl
      (ValueIdx.ix2 (n0 := 3) (n1 := 12800) ⟨(j 0).val % 4, h⟩ ⟨(j 1).val, h1⟩) fun b => ?_).trans (hD ((j 0).val / 4) (by omega) _)
    match b with
    | ⟨0, _⟩ => rfl
    | ⟨1, _⟩ => rfl
  · rename_i h
    refine (concatenate_pair_apply_right (t := S4x12800) (s₁ := S3x12800) (s₂ := S1x12800) (0 : Fin 2) (D (12800 * ((j 0).val / 4)))
      (broadcast S1x12800 (Scalar.ofBits (F := Ideal) .f32 0x00000000#32)) concatenates_S3x12800_S1x12800_S4x12800_d0 _ rfl rfl
      (ValueIdx.ix2 (n0 := 1) (n1 := 12800) 0 ⟨(j 1).val, h1⟩) (fun b hb => ?_) ?_).trans Ideal.ofBits_zero_f32
    · match b with
      | ⟨0, _⟩ => exact absurd rfl hb
      | ⟨1, _⟩ => rfl
    · show 0 + 3 = (j 0).val % 4
      omega

include h4

/-- The step's sum over molecules. -/
theorem product_squares : k0_pay10 x4 (lhs D) = molecules d t := by
  have hp : ∀ j : S64x128.Idx, matmul (F := Ideal) dot_S64x12800_S12800x128_S64x128_1_0_0_1_n_n none (lhs D) (k0_pay1 x4)
      (constant S64x128 .f32 0x00000000#32) j = dotted d t (j 0).val (j 1).val := fun j => by
    refine (Ideal.matmul_constant_zero_apply dot_S64x12800_S12800x128_S64x128_1_0_0_1_n_n none (lhs D) (k0_pay1 x4) j).trans ?_
    unfold dotted
    rw [← Fin.sum_univ_eq_sum_range (fun k => row d t (j 0).val k * member k (j 1).val),
      ← Equiv.sum_comp (ValueIdx.contrEquiv1 dot_S64x12800_S12800x128_S64x128_1_0_0_1_n_n 12800 rfl rfl)]
    refine Finset.sum_congr rfl fun k _ => ?_
    refine congrArg₂ (· * ·) (lhs_apply D d t hD _) ((congrFun (shapeCast_self x4 _) _).trans (h4 _))
  refine (reduce_total _ shapeCasts_S64x128_S1x64x128 reduces_S1x64x128_S1 _).trans ?_
  exact sum_grid _ (fun r k => dotted d t r k * dotted d t r k) fun j => congrArg₂ (· * ·) (hp j) (hp j)

/-- The step's share of the result. -/
theorem share_eq : k0_pay11 (F := Ideal) (total (squares D 16)) (k0_pay10 x4 (lhs D))
    = ((30000⁻¹ : ℝ) : EReal) * forces d t + ((3000⁻¹ : ℝ) : EReal) * molecules d t := by
  rw [total_squares D d t hD, product_squares D d t hD x4 h4]
  refine congrArg₂ (fun a b : EReal => a * forces d t + b * molecules d t) ?_ ?_
  · exact IdealRules.named_const.ideal_named_scalar κ "forces" _ _ rfl
  · exact IdealRules.named_const.ideal_named_scalar κ "intermol" _ _ rfl

/-- A later step adds its share. -/
theorem next_apply (y : Vec Ideal S1x1 .f32) (j : S1x1.Idx) : next D x4 y j
    = y j + (((30000⁻¹ : ℝ) : EReal) * forces d t + ((3000⁻¹ : ℝ) : EReal) * molecules d t) := by
  rw [← share_eq D d t hD x4 h4]
  exact congrArg (· + _) (congrFun (shapeCast_self y _) j)

end

/-- The squared error of one molecule's energy, each energy over its number of atoms. -/
def energy (p r : EReal) (n : BitVec 32) : EReal :=
  Ideal.div (p - r) (((IntOp.maxsi n 1#32).toInt : ℝ) : EReal) * Ideal.div (p - r) (((IntOp.maxsi n 1#32).toInt : ℝ) : EReal)

/-- The pattern of one over 1024. -/
theorem ofBits_share : Ideal.ofBits .f32 0x3A800000#32 = ((1024⁻¹ : ℝ) : EReal) := by
  simp [Ideal.ofBits, Ideal.ieee, -EReal.coe_mul]; norm_num

/-- The first step's result. -/
theorem first_apply (D : ℕ → FVec Ideal S3x12800 .f32) (d : ℕ → ℕ → EReal)
    (hD : ∀ u < 16, ∀ j, D (12800 * u) j = d (j 0).val (204800 * 0 + (12800 * u + (j 1).val)))
    (x4 : Vec Ideal S12800x128 .bf16) (h4 : ∀ j, x4 j = member (j 0).val (j 1).val)
    (x1 x2 : Vec Ideal S8x128 .f32) (x3 : Vec Ideal S8x128 .i32) (j : S1x1.Idx) : first D x1 x2 x3 x4 j
    = ((1024⁻¹ : ℝ) : EReal) * (∑ i, energy (x1 i) (x2 i) (x3 i))
      + (((30000⁻¹ : ℝ) : EReal) * forces d 0 + ((3000⁻¹ : ℝ) : EReal) * molecules d 0) := by
  rw [← share_eq D d 0 hD x4 h4, ← ofBits_share]
  refine congrArg (fun e : EReal => Ideal.ofBits .f32 0x3A800000#32 * e + _) ?_
  refine (reduce_total _ shapeCasts_S8x128_S1x8x128 reduces_S1x8x128_S1 _).trans ?_
  refine Finset.sum_congr rfl fun i _ => ?_
  rw [shapeCast_self, shapeCast_self, shapeCast_self]
  rfl

end Cert.Proof.Sums

end
-- ==== Proof.Value.lean ====
/-
  The kernel's value over the extended reals: the arrays the host passes to the launch, the blocks the windows read of
  them, a step's differences as entries of the arguments, and the loss that the five steps leave.
-/
module

public import proofs.«01_k».proof.Proof.Run
public import proofs.«01_k».proof.Proof.Sums
public import Idealize.ShloMosaic.Lib.StableHlo.ReadAt
public import Idealize.ShloMosaic.Lib.Tactic.WordOmega
public import Idealize.ShloMosaic.Lib.Routing.Words

@[expose] public section

set_option maxRecDepth 16384

noncomputable section

namespace Cert.Proof.Value

open Cert.KernelIdeal Cert.KernelIdeal.Gen
open Idealize.ShloMosaic Idealize.ShloMosaic.TcCoe Idealize.ShloMosaic.Tactic
open Cert.Proof.Step Cert.Proof.Algebra Cert.Proof.Sums Cert.Proof.Run
open Finset (range)

variable (m : (ℓ : Loc nD τ sig) → Buf (Elt Ideal) ℓ) (c : Dev nD)

/-- The word of a column's molecule, as the host divides. -/
theorem divided (a : ℕ) (ha : a < 12800) : Scalar.select
      (IntOp.andi
        (IntOp.cmpi (w := 32) .ne (if BitVec.ofNat 32 a = 0 then 0 else if (BitVec.ofNat 32 a).msb = true then -1 else 1)
          (if (100#32 : BitVec 32) = 0 then 0 else if BitVec.msb (100#32 : BitVec 32) = true then -1 else 1))
        (IntOp.cmpi .ne (IntOp.remsi .host (BitVec.ofNat 32 a) 100#32) 0#32))
      (IntOp.subi (IntOp.divsi .host (BitVec.ofNat 32 a) 100#32) 1#32) (IntOp.divsi .host (BitVec.ofNat 32 a) 100#32)
    = BitVec.ofNat 32 (a / 100) := by
  rw [Routing.remsi_word .host (show a < 2 ^ 31 by omega) (show 0 < 100 by omega) (by omega),
    Routing.divsi_word .host (show a < 2 ^ 31 by omega) (show 0 < 100 by omega) (by omega)]
  rcases Nat.eq_zero_or_pos a with rfl | h
  · decide
  · have h0 : BitVec.ofNat 32 a ≠ 0 := Routing.ofNat32_ne_zero h (by omega)
    rw [if_neg h0, Routing.msb_ofNat32 (by omega), if_neg (by decide), if_neg (by decide), if_neg (by decide)]
    show Scalar.select (IntOp.andi 0#1 _) _ _ = _
    rw [show ∀ x : BitVec 1, IntOp.andi 0#1 x = 0#1 from by decide]
    rfl

/-- The 0/1 matrix of columns and molecules, as the host builds it. -/
theorem sel_apply (j : S12800x128.Idx) : V m c main_v9 j = member (j 0).val (j 1).val := by
  have h0 : (j 0).val < 12800 := (j 0).isLt
  have h1 : (j 1).val < 128 := (j 1).isLt
  unfold V
  after_reads_at
  refine (congrArg (fun w => FloatOps.uitofp (F := Ideal) .bf16 (IntOp.cmpi .eq w (BitVec.ofNat 32 (j 1).val))) (divided _ h0)).trans ?_
  unfold member
  rw [WordCmp.cmpi_eq_eq]
  split
  · rename_i h
    rw [h, decide_eq_true rfl]
    show (((1 : ℕ) : ℝ) : EReal) = 1
    norm_num
  · rename_i h
    rw [decide_eq_false (fun e => h ((WordCmp.ofNat_eq_ofNat_iff (by omega) (by omega)).mp e))]
    show (((0 : ℕ) : ℝ) : EReal) = 0
    norm_num

/-- The windows' block indices. -/
theorem index_eq (t : Fin cfg0.N) : win0_0.index t = ![0, 0] ∧ win0_1.index t = ![0, 0] ∧ win0_2.index t = ![0, 0] ∧ win0_3.index t = ![0, 0]
    ∧ win0_4.index t = ![0, t.val] ∧ win0_5.index t = ![0, t.val] := by
  rcases fin_N0 t with rfl | rfl | rfl | rfl | rfl <;> decide

/-- A block index of zeros. -/
theorem zeros_apply (a : Fin 2) : (![0, 0] : Fin 2 → ℕ) a = 0 := by
  match a with
  | ⟨0, _⟩ => rfl
  | ⟨1, _⟩ => rfl

/-- The blocks that are their arrays. -/
theorem iblk_whole (t : Fin cfg0.N) : iblk m c 0 t = V m c main_v2 ∧ iblk m c 1 t = V m c main_v3 ∧ iblk m c 2 t = V m c main_v4
    ∧ iblk m c 3 t = V m c main_v9 := by
  obtain ⟨h0, h1, h2, h3, -, -⟩ := index_eq t
  refine ⟨funext fun j => congrArg (V m c main_v2) (funext fun a => Fin.ext ?_), funext fun j => congrArg (V m c main_v3) (funext fun a => Fin.ext ?_),
    funext fun j => congrArg (V m c main_v4) (funext fun a => Fin.ext ?_), funext fun j => congrArg (V m c main_v9) (funext fun a => Fin.ext ?_)⟩
  · show (((win0_0.blk t).view.emb j) a).val = _
    blk_simp [h0]
    exact (congrArg (fun n => n * _ + _) (zeros_apply a)).trans (by omega)
  · show (((win0_1.blk t).view.emb j) a).val = _
    blk_simp [h1]
    exact (congrArg (fun n => n * _ + _) (zeros_apply a)).trans (by omega)
  · show (((win0_2.blk t).view.emb j) a).val = _
    blk_simp [h2]
    exact (congrArg (fun n => n * _ + _) (zeros_apply a)).trans (by omega)
  · show (((win0_3.blk t).view.emb j) a).val = _
    blk_simp [h3]
    exact (congrArg (fun n => n * _ + _) (zeros_apply a)).trans (by omega)

/-- The arrays the host makes of the arguments. -/
theorem host_arrays : (∀ j : S3x1000000.Idx, V m c main_v0 j = (m (c, Proc.devRef .tc main_arg2) : FVec Ideal S1000000x3 .f32)
      (ValueIdx.ix2 (n0 := 1000000) (n1 := 3) (j 1) (j 0)))
    ∧ (∀ j : S3x1000000.Idx, V m c main_v1 j = (m (c, Proc.devRef .tc main_arg3) : FVec Ideal S1000000x3 .f32)
      (ValueIdx.ix2 (n0 := 1000000) (n1 := 3) (j 1) (j 0))) := by
  refine ⟨fun j => ?_, fun j => ?_⟩
  · unfold V
    after_reads_at
    rfl
  · unfold V
    after_reads_at
    rfl

/-- The energies and the numbers of atoms, in rows. -/
theorem energies_arrays : V m c main_v2 = shapeCast S8x128 (m (c, Proc.devRef .tc main_arg0) : FVec Ideal S1024 .f32) shapeCasts_S1024_S8x128
    ∧ V m c main_v3 = shapeCast S8x128 (m (c, Proc.devRef .tc main_arg1) : FVec Ideal S1024 .f32) shapeCasts_S1024_S8x128
    ∧ V m c main_v4 = shapeCast S8x128 (m (c, Proc.devRef .tc main_arg4) : IVec S1024 32) shapeCasts_S1024_S8x128 := by
  refine ⟨funext fun j => ?_, funext fun j => ?_, funext fun j => ?_⟩
  · unfold V
    after_reads_at
  · unfold V
    after_reads_at
  · unfold V
    after_reads_at

/-- The columns of a block inside the array are moved. -/
theorem moved_inside (t : Fin cfg0.N) (j : S3x204800.Idx) (h : 204800 * t.val + (j 1).val < 1000000) :
    win0_4.moved (grid0.coords t) j = true ∧ win0_5.moved (grid0.coords t) j = true := by
  have h0 : (j 0).val < 3 := (j 0).isLt
  have h1 : (j 1).val < 204800 := (j 1).isLt
  have e : win0_4.xsize (grid0.coords t) (0 : Fin 2) = 3 ∧ win0_5.xsize (grid0.coords t) (0 : Fin 2) = 3
      ∧ win0_4.xsize (grid0.coords t) (1 : Fin 2) = min 204800 (1000000 - 204800 * t.val)
      ∧ win0_5.xsize (grid0.coords t) (1 : Fin 2) = min 204800 (1000000 - 204800 * t.val) := by
    rcases fin_N0 t with rfl | rfl | rfl | rfl | rfl <;> decide
  refine ⟨(win0_4.moved_iff _ j).mpr fun a => ?_, (win0_5.moved_iff _ j).mpr fun a => ?_⟩
  all_goals match a with
    | ⟨0, _⟩ => first | exact lt_of_lt_of_eq h0 e.1.symm | exact lt_of_lt_of_eq h0 e.2.1.symm
    | ⟨1, _⟩ => first | exact lt_of_lt_of_eq (show (j 1).val < min 204800 (1000000 - 204800 * t.val) by omega) e.2.2.1.symm | exact lt_of_lt_of_eq (show (j 1).val < min 204800 (1000000 - 204800 * t.val) by omega) e.2.2.2.symm

/-- A block's entry inside the array is the argument's, rows and columns exchanged. -/
theorem blocks_apply (t : Fin cfg0.N) (j : S3x204800.Idx) (h : 204800 * t.val + (j 1).val < 1000000) :
    blkR m c t j = (m (c, Proc.devRef .tc main_arg2) : FVec Ideal S1000000x3 .f32)
        (ValueIdx.ix2 (n0 := 1000000) (n1 := 3) ⟨204800 * t.val + (j 1).val, h⟩ ⟨(j 0).val, (j 0).isLt⟩)
    ∧ blkP m c t j = (m (c, Proc.devRef .tc main_arg3) : FVec Ideal S1000000x3 .f32)
        (ValueIdx.ix2 (n0 := 1000000) (n1 := 3) ⟨204800 * t.val + (j 1).val, h⟩ ⟨(j 0).val, (j 0).isLt⟩) := by
  unfold blkR blkP Pipeline.Window.fill
  rw [dif_pos (moved_inside t j h).1, dif_pos (moved_inside t j h).2]
  refine ⟨((host_arrays m c).1 _).trans (congrArg _ (funext fun a => Fin.ext ?_)),
    ((host_arrays m c).2 _).trans (congrArg _ (funext fun a => Fin.ext ?_))⟩
  · match a with
    | ⟨0, _⟩ =>
      show (((win0_4.blk t).view.emb _) 1).val = 204800 * t.val + (j 1).val
      blk_simp [(index_eq t).2.2.2.2.1]
      exact congrArg (· + _) (Nat.mul_comm _ _)
    | ⟨1, _⟩ =>
      show (((win0_4.blk t).view.emb _) 0).val = (j 0).val
      blk_simp [(index_eq t).2.2.2.2.1]
  · match a with
    | ⟨0, _⟩ =>
      show (((win0_5.blk t).view.emb _) 1).val = 204800 * t.val + (j 1).val
      blk_simp [(index_eq t).2.2.2.2.2]
      exact congrArg (· + _) (Nat.mul_comm _ _)
    | ⟨1, _⟩ =>
      show (((win0_5.blk t).view.emb _) 0).val = (j 0).val
      blk_simp [(index_eq t).2.2.2.2.2]

/-! ## The steps' differences and the loss -/

/-- Predicted minus reference force of atom `n` along coordinate `k`, and zero past the last atom. -/
def dAt (R P : FVec Ideal S1000000x3 .f32) (k n : ℕ) : EReal :=
  if h : n < 1000000 ∧ k < 3 then P (ValueIdx.ix2 (n0 := 1000000) (n1 := 3) ⟨n, h.1⟩ ⟨k, h.2⟩)
    - R (ValueIdx.ix2 (n0 := 1000000) (n1 := 3) ⟨n, h.1⟩ ⟨k, h.2⟩) else 0

theorem dAt_past (R P : FVec Ideal S1000000x3 .f32) (k n : ℕ) (h : 1000000 ≤ n) : dAt R P k n = 0 :=
  dif_neg fun e => by omega

/-- The differences of the launch's arguments. -/
abbrev table : ℕ → ℕ → EReal := dAt (m (c, Proc.devRef .tc main_arg2)) (m (c, Proc.devRef .tc main_arg3))

theorem diffAt_apply (t : Fin cfg0.N) (u : ℕ) (hu : u < 16) (j : S3x12800.Idx) (h : 204800 * t.val + (12800 * u + (j 1).val) < 1000000) :
    diffAt (blkR m c t) (blkP m c t) (12800 * u) j = table m c (j 0).val (204800 * t.val + (12800 * u + (j 1).val)) := by
  have h0 : (j 0).val < 3 := (j 0).isLt
  have h1 : (j 1).val < 12800 := (j 1).isLt
  have e : tileIdx (12800 * u) j = ValueIdx.ix2 (n0 := 3) (n1 := 204800) ⟨(j 0).val, h0⟩ ⟨12800 * u + (j 1).val, by omega⟩ := by
    refine funext fun a => Fin.ext ?_
    match a with
    | ⟨0, _⟩ => rfl
    | ⟨1, _⟩ => exact Nat.mod_eq_of_lt (by omega)
  show (blkP m c t (tileIdx (12800 * u) j) : EReal) - blkR m c t (tileIdx (12800 * u) j) = _
  unfold table dAt
  rw [dif_pos ⟨h, h0⟩, e]
  exact congrArg₂ (fun a b : EReal => a - b) (blocks_apply m c t _ h).2 (blocks_apply m c t _ h).1

/-- A step's differences are the table's. -/
theorem diffs_apply (t : Fin cfg0.N) (u : ℕ) (hu : u < 16) (j : S3x12800.Idx) :
    diffs m c t (12800 * u) j = table m c (j 0).val (204800 * t.val + (12800 * u + (j 1).val)) := by
  have h1 : (j 1).val < 12800 := (j 1).isLt
  have ht : t.val < 5 := (tests t).2.2.2.2
  unfold diffs
  split
  · rename_i h4
    rw [show (4#32 : BitVec 32) = BitVec.ofNat 32 4 from rfl, maskedAt_apply 4 _ le_rfl (by omega)]
    split
    · exact diffAt_apply m c t u hu j (by omega)
    · rw [table, dAt_past _ _ _ _ (by omega)]
      exact Ideal.ofBits_zero_f32
  · exact diffAt_apply m c t u hu j (by omega)

/-- The loss: the energies' mean squared error, the forces' and the molecules', with their weights. -/
def loss (x0 x1 : FVec Ideal S1024 .f32) (R P : FVec Ideal S1000000x3 .f32) (x4 : IVec S1024 32) : EReal :=
  ((1024⁻¹ : ℝ) : EReal) * (∑ i, energy (x0 i) (x1 i) (x4 i))
    + (((30000⁻¹ : ℝ) : EReal) * (∑ k ∈ range 3, ∑ n ∈ range 1000000, dAt R P k n * dAt R P k n)
      + ((3000⁻¹ : ℝ) : EReal) * (∑ k ∈ range 3, ∑ q ∈ range 10000, molecule (dAt R P) k q * molecule (dAt R P) k q))

/-- The result's word after step `n`. -/
theorem out_apply (n : ℕ) (hn : n < 5) (j : S1x1.Idx) : out m c n j
    = ((1024⁻¹ : ℝ) : EReal) * (∑ i : S8x128.Idx, energy (iblk m c 0 (pt 0) i) (iblk m c 1 (pt 0) i) (iblk m c 2 (pt 0) i))
      + ∑ t ∈ range (n + 1), (((30000⁻¹ : ℝ) : EReal) * forces (table m c) t + ((3000⁻¹ : ℝ) : EReal) * molecules (table m c) t) := by
  have hs : ∀ t, ∀ j : S12800x128.Idx, iblk m c 3 t j = member (j 0).val (j 1).val := fun t j => by
    rw [(iblk_whole m c t).2.2.2]; exact sel_apply m c j
  have hp : ∀ n < 5, (pt n).val = n := fun n hn => Nat.mod_eq_of_lt hn
  induction n with
  | zero =>
    rw [Finset.sum_range_one]
    exact first_apply _ (table m c) (fun u hu j => diffs_apply m c (pt 0) u hu j) _ (hs _) _ _ _ j
  | succ n ih =>
    rw [Finset.sum_range_succ, ← add_assoc, ← ih (by omega)]
    refine next_apply _ (table m c) (n + 1) (fun u hu j => ?_) _ (hs _) _ j
    rw [diffs_apply m c (pt (n + 1)) u hu j, hp _ hn]

/-- After the last step it is the loss. -/
theorem out_last (j : S1x1.Idx) : out m c 4 j = loss (m (c, Proc.devRef .tc main_arg0)) (m (c, Proc.devRef .tc main_arg1))
    (m (c, Proc.devRef .tc main_arg2)) (m (c, Proc.devRef .tc main_arg3)) (m (c, Proc.devRef .tc main_arg4)) := by
  obtain ⟨e0, e1, e2, -⟩ := iblk_whole m c (pt 0)
  obtain ⟨v2, v3, v4⟩ := energies_arrays m c
  have h : ∀ r : ℝ, 0 ≤ r → (0 : EReal) ≤ (r : EReal) := fun r => EReal.coe_nonneg.mpr
  rw [out_apply m c 4 (by omega), e0, e1, e2, v2, v3, v4, Finset.sum_add_distrib,
    ← mul_sum_real (h _ (by norm_num)) (EReal.coe_ne_top _), ← mul_sum_real (h _ (by norm_num)) (EReal.coe_ne_top _),
    forces_total _ (dAt_past _ _), molecules_total _ (dAt_past _ _)]
  refine congrArg (fun e : EReal => ((1024⁻¹ : ℝ) : EReal) * e + _) ?_
  exact sum_cast (fun i => energy ((m (c, Proc.devRef .tc main_arg0) : FVec Ideal S1024 .f32) i)
    ((m (c, Proc.devRef .tc main_arg1) : FVec Ideal S1024 .f32) i) ((m (c, Proc.devRef .tc main_arg4) : IVec S1024 32) i)) shapeCasts_S1024_S8x128

end Cert.Proof.Value

end
-- ==== Proof.Result.lean ====
/-
  What a run of the ideal program leaves: the result's buffer at the loss, the arguments as they were.
-/
module

public import proofs.«01_k».proof.Proof.Value

@[expose] public section

set_option maxRecDepth 16384

noncomputable section

namespace Cert.Proof.Result

open Cert.KernelIdeal Cert.KernelIdeal.Gen
open Idealize.ShloMosaic Idealize.ShloMosaic.TcCoe Idealize.ShloMosaic.Tactic Idealize.SL.Sem
open Cert.Proof.Step Cert.Proof.Value Cert.Proof.Run

variable (m : (ℓ : Loc nD τ sig) → Buf (Elt Ideal) ℓ) (ρ : Dev nD → PrngReg) (c : Dev nD)

/-- The loss of a memory's arguments on a core. -/
abbrev lossOf : EReal := loss (m (c, Proc.devRef .tc main_arg0)) (m (c, Proc.devRef .tc main_arg1)) (m (c, Proc.devRef .tc main_arg2))
  (m (c, Proc.devRef .tc main_arg3)) (m (c, Proc.devRef .tc main_arg4))

/-- The launch's result after the last step. -/
theorem launched : (dats m 0 c).arrAt 6 cfg0.N = fun _ => lossOf m c := by
  refine (dats m 0 c).arrAt_eq_of_after_last 6 t0_4 (by decide +kernel) _ fun j => ?_
  blk_simp
  rw [after0_6]
  exact out_last m c _

/-- The program's result. -/
theorem result_eq (r) (h : Pipeline.FramePost cfgs (dats m) 0 (Pipeline.afterTail₀ cfgs (dats m) 0 (V0 m) [hostOps1]) r) :
    r.2.mem ((c.tc : Thread nD τ).loc main_v11) = fun _ => lossOf m c := by
  refine ((h c).2 main_v11 (Pipeline.mem_restRefs_of main_v11 (by decide) (by decide))).trans ?_
  unfold Pipeline.afterTail₀
  show StableHlo.after hostOps1 _ _ = _
  unfold hostOps1
  after_results
  have e : Pipeline.withArrays spec0 c (V0 m c) (fun w => (dats m 0 c).arrAt w cfg0.N) (Proc.devRef .tc main_v10) = fun _ => lossOf m c :=
    (Pipeline.withArrays_arr spec0 launch0.win.arr_inj c (V0 m c) _ 6).trans (launched m c)
  exact funext fun i => congrFun e _

/-- Every run ends with the result at the loss and the arguments as they were. -/
theorem run : θ_run defs (onTc (τ := τ) (main (F := Ideal))) ⟨m, fun _ => 0, ρ⟩ (fun r => ∀ c : Dev nD,
      r.2.mem ((c.tc : Thread nD τ).loc main_v11) = (fun _ => lossOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨result_eq m c r h.1.1, h.2.1 c⟩) (θ_run_and (run_main_quiescent m ρ) (Run.frame m ρ))

end Cert.Proof.Result

end
-- ==== Proof.Ref.lean ====
/-
  The reference's value over the extended reals, where atom `100 q + i` is the `i`th of molecule `q`: every gathered row
  is in range, and the three means with their weights are the loss that the kernel's steps leave.
-/
module

public import proofs.«01_k».proof.Proof.Value
public import proofs.«01_k».proof.Proof.Gen.ReferenceIdeal.Run
public import proofs.«01_k».proof.Proof.Gen.ReferenceIdeal.Read
public import proofs.«01_k».proof.Proof.Gen.Pre_molecules_in_order
public import Idealize.ShloMosaic.Lib.ReduceAll

@[expose] public section

set_option maxRecDepth 16384

noncomputable section

namespace Cert.Proof.Ref

open Cert.ReferenceIdeal Cert.ReferenceIdeal.Gen Cert.ReferenceIdeal.Read
open Idealize.ShloMosaic
open Cert.Proof.Algebra Cert.Proof.Sums
open Cert.Proof.Value (dAt loss)
open Finset (range)

/-- The molecules' atoms in order. -/
def InOrder (x5 : IVec S10000x100 32) : Prop := ∀ j : S10000x100.Idx, x5 j = BitVec.ofNat 32 (100 * (j 0).val + (j 1).val)

/-- What the precondition says. -/
theorem inOrder_of_pre (x0 x1 : FVec Ideal S1024 .f32) (x2 x3 : FVec Ideal S1000000x3 .f32) (x4 : IVec S1024 32) (x5 : IVec S10000x100 32)
    (h : Cert.Pre_molecules_in_order.fn (F := Ideal) x0 x1 x2 x3 x4 x5 = fun _ => 1#1) : InOrder x5 := fun j => by
  have e := Host.reduce_andi_all (t := Cert.Pre_molecules_in_order.S_) _ _ _ _ _ (congrFun h (fun a => a.elim0)) j
  have h0 : (j 0).val < 10000 := (j 0).isLt
  have h1 : (j 1).val < 100 := (j 1).isLt
  have e2 := (WordCmp.ofBool_decide_eq_one_iff _).mp ((WordCmp.cmpi_eq_eq _ _).symm.trans e)
  refine e2.trans ?_
  rw [shapeCast_apply (s := Cert.Pre_molecules_in_order.S1000000) (t := Cert.Pre_molecules_in_order.S10000x100) _ _ j
    (ValueIdx.ix1 (n := 1000000) ⟨100 * (j 0).val + (j 1).val, by omega⟩) (by
      rw [Shape.rowMajor_val_one, Shape.rowMajor_val_two]
      show 100 * (j 0).val + (j 1).val = (j 0).val * 100 + (j 1).val
      omega)]
  rfl

/-- Which row each gathered entry comes from. -/
abbrev taken := gather_S1000000x3_S10000x100x1_S10000x100x3_2_0_n_n_0_2_13

section
variable (x5 : IVec S10000x100 32) (h5 : InOrder x5)
include h5

/-- The row numbers the gather reads. -/
theorem rows_apply (j : S10000x100x1.Idx) : val_main_call0_v5 (F := Ideal) x5 j = BitVec.ofNat 32 (100 * (j 0).val + (j 1).val) := by
  have h0 : (j 0).val < 10000 := (j 0).isLt
  have h1 : (j 1).val < 100 := (j 1).isLt
  rw [val_main_call0_v5_apply, val_main_call0_v4_apply, val_main_call0_v1_apply, h5, val_main_call0_v0_apply]
  show Scalar.select (IntOp.cmpi .slt (BitVec.ofNat 32 (100 * (j 0).val + (j 1).val)) (BitVec.ofNat 32 0)) _ _ = _
  rw [(WordCmp.cmpi_slt_ofNat_eq_zero_iff (by omega) (by omega)).mpr (by omega)]
  rfl

/-- Every one is in range. -/
theorem mask_apply (j : S10000x100.Idx) : val_main_call0_v12 (F := Ideal) x5 j = 1#1 := by
  refine Host.reduce_andi_one _ _ _ _ _ rfl fun i => ?_
  have h0 : (i 0).val < 10000 := (i 0).isLt
  have h1 : (i 1).val < 100 := (i 1).isLt
  rw [val_main_call0_v11_apply, val_main_call0_v7_apply, val_main_call0_v10_apply, rows_apply x5 h5, val_main_call0_v6_apply,
    val_main_call0_v9_apply, val_main_call0_v8_apply]
  show IntOp.andi (IntOp.cmpi .sge (BitVec.ofNat 32 (100 * (i 0).val + (i 1).val)) (BitVec.ofNat 32 0))
    (IntOp.cmpi .sle (BitVec.ofNat 32 (100 * (i 0).val + (i 1).val)) (BitVec.ofNat 32 999999)) = 1#1
  rw [WordCmp.cmpi_sge_ofNat (by omega) (by omega), WordCmp.cmpi_sle_ofNat (by omega) (by omega),
    decide_eq_true (by omega), decide_eq_true (by omega)]
  rfl

/-- The gathered rows. -/
theorem gathered_apply (x : FVec Ideal S1000000x3 .f32) (j : S10000x100x3.Idx) (h : 100 * (j 0).val + (j 1).val < 1000000) :
    val_main_call0_v13 (F := Ideal) x x5 j
      = x (ValueIdx.ix2 (n0 := 1000000) (n1 := 3) ⟨100 * (j 0).val + (j 1).val, h⟩ ⟨(j 2).val, (j 2).isLt⟩) := by
  have h0 : (j 0).val < 10000 := (j 0).isLt
  have h1 : (j 1).val < 100 := (j 1).isLt
  have m0 : (0 : Fin 2) ∈ taken.startIndexMap := List.mem_singleton.mpr rfl
  have m1 : (1 : Fin 2) ∉ taken.startIndexMap := by decide
  unfold val_main_call0_v13 Host.gather
  refine congrArg x (funext fun a => Fin.ext ?_)
  match a with
  | ⟨0, _⟩ =>
    show taken.start j _ 0 + taken.batchCoord j 0 + taken.offCoord j 0 = 100 * (j 0).val + (j 1).val
    rw [GatherDims.batchCoord_eq_zero _ _ _ List.not_mem_nil,
      GatherDims.offCoord_eq_zero _ _ _ (fun e => ((GatherDims.mem_sKept _ _).mp e).1 (List.mem_singleton.mpr rfl))]
    unfold GatherDims.start
    rw [dif_pos m0, rows_apply x5 h5]
    show min (BitVec.ofNat 32 (100 * (j 0).val + (j 1).val)).toInt.toNat 999999 + 0 + 0 = _
    rw [WordCmp.toInt_ofNat_of_lt (by omega)]
    omega
  | ⟨1, _⟩ =>
    show taken.start j _ 1 + taken.batchCoord j 1 + taken.offCoord j 1 = (j 2).val
    rw [GatherDims.batchCoord_eq_zero _ _ _ List.not_mem_nil]
    unfold GatherDims.start
    rw [dif_neg m1, zero_add, zero_add]
    rfl

end

/-- An entry of an array of rows, and zero outside it. -/
def entry (x : FVec Ideal S1000000x3 .f32) (k n : ℕ) : EReal :=
  if h : n < 1000000 ∧ k < 3 then x (ValueIdx.ix2 (n0 := 1000000) (n1 := 3) ⟨n, h.1⟩ ⟨k, h.2⟩) else 0

theorem dAt_eq (R P : FVec Ideal S1000000x3 .f32) (k n : ℕ) : dAt R P k n = entry P k n - entry R k n := by
  unfold dAt entry
  split
  · rfl
  · exact (sub_zero (0 : EReal)).symm

/-- A molecule's sum. -/
theorem sums_apply (x5 : IVec S10000x100 32) (h5 : InOrder x5) (x : FVec Ideal S1000000x3 .f32) (j : S10000x3.Idx) :
    val_main_v13 (F := Ideal) x x5 j = ∑ i ∈ range 100, entry x (j 1).val (100 * (j 0).val + i) := by
  have h0 : (j 0).val < 10000 := (j 0).isLt
  have h1 : (j 1).val < 3 := (j 1).isLt
  rw [val_main_v13_apply, val_main_cst_3_apply]
  refine (congrArg₂ (fun a b : EReal => a + b) Ideal.ofBits_zero_f32 ?_).trans (zero_add _)
  rw [← Fin.sum_univ_eq_sum_range (fun i => entry x (j 1).val (100 * (j 0).val + i))]
  refine Finset.sum_congr rfl fun i _ => ?_
  have hi : i.val < 100 := i.isLt
  rw [val_main_v12_apply, val_main_call0_v14_apply, mask_apply x5 h5]
  refine (gathered_apply x5 h5 x (idx_main_v13 j i) (show 100 * (j 0).val + i.val < 1000000 by omega)).trans ?_
  unfold entry
  rw [dif_pos ⟨by omega, h1⟩]

/-- The second gather is the first's text. -/
theorem sums_again (x5 : IVec S10000x100 32) (x : FVec Ideal S1000000x3 .f32) :
    val_main_v15 (F := Ideal) x x5 = val_main_v13 (F := Ideal) x x5 := rfl

/-- Division by a real that is not zero. -/
theorem div_real (x : EReal) (r : ℝ) (hr : r ≠ 0) : Ideal.div x (r : EReal) = ((r⁻¹ : ℝ) : EReal) * x := by
  unfold Ideal.div
  rw [if_neg (fun e => hr (EReal.coe_eq_zero.mp e)), mul_comm, EReal.coe_inv]

/-- The reference's constants. -/
theorem constants : Ideal.ofBits .f32 0x44800000#32 = ((1024 : ℝ) : EReal) ∧ Ideal.ofBits .f32 0x4A371B00#32 = ((3000000 : ℝ) : EReal)
    ∧ Ideal.ofBits .f32 0x46EA6000#32 = ((30000 : ℝ) : EReal) ∧ Ideal.ofBits .f32 0x42C80000#32 = ((100 : ℝ) : EReal)
    ∧ Ideal.ofBits .f32 0x41200000#32 = ((10 : ℝ) : EReal) := by
  refine ⟨?_, ?_, ?_, ?_, ?_⟩ <;> · simp [Ideal.ofBits, Ideal.ieee, -EReal.coe_mul]; norm_num

/-- The energies' part. -/
theorem energies_part (x0 x1 : FVec Ideal S1024 .f32) (x4 : IVec S1024 32) (i : S_.Idx) :
    val_main_v20 (F := Ideal) x0 x1 x4 i = ((1024⁻¹ : ℝ) : EReal) * ∑ j, energy (x0 j) (x1 j) (x4 j) := by
  rw [val_main_v20_apply, val_main_v7_apply, val_main_v6_apply]
  show Ideal.ofBits .f32 0x3F800000#32 * Ideal.div (Ideal.ofBits .f32 0x00000000#32 + _) (Ideal.ofBits .f32 0x44800000#32) = _
  rw [Ideal.ofBits_one_f32, Ideal.ofBits_zero_f32, constants.1, one_mul, zero_add, div_real _ _ (by norm_num)]
  refine congrArg (fun e : EReal => ((1024⁻¹ : ℝ) : EReal) * e) (Finset.sum_congr rfl fun j _ => ?_)
  rw [val_main_v5_apply, val_main_v4_apply, val_main_v3_apply, val_main_v2_apply, val_main_v1_apply, val_main_v0_apply]
  rfl

/-- The forces' part. -/
theorem forces_part (x2 x3 : FVec Ideal S1000000x3 .f32) (i : S_.Idx) : val_main_v21 (F := Ideal) x2 x3 i
    = ((30000⁻¹ : ℝ) : EReal) * ∑ k ∈ range 3, ∑ n ∈ range 1000000, dAt x2 x3 k n * dAt x2 x3 k n := by
  rw [val_main_v21_apply, val_main_v11_apply, val_main_v10_apply]
  show Ideal.ofBits .f32 0x42C80000#32 * Ideal.div (Ideal.ofBits .f32 0x00000000#32 + _) (Ideal.ofBits .f32 0x4A371B00#32) = _
  rw [constants.2.2.2.1, Ideal.ofBits_zero_f32, constants.2.1, zero_add, div_real _ _ (by norm_num), ← mul_assoc, ← EReal.coe_mul,
    show (100 * 3000000⁻¹ : ℝ) = 30000⁻¹ by norm_num, Finset.sum_comm]
  refine congrArg (fun e : EReal => ((30000⁻¹ : ℝ) : EReal) * e) (sum_grid _ (fun n k => dAt x2 x3 k n * dAt x2 x3 k n) fun j => ?_)
  have h0 : (j 0).val < 1000000 := (j 0).isLt
  have h1 : (j 1).val < 3 := (j 1).isLt
  rw [val_main_v9_apply, val_main_v8_apply]
  refine (sq_sub_comm (x2 j) (x3 j)).trans ?_
  have e : j = ValueIdx.ix2 (n0 := 1000000) (n1 := 3) ⟨(j 0).val, h0⟩ ⟨(j 1).val, h1⟩ := by
    refine funext fun a => Fin.ext ?_
    match a with
    | ⟨0, _⟩ => rfl
    | ⟨1, _⟩ => rfl
  unfold dAt
  rw [dif_pos ⟨h0, h1⟩, ← e]

/-- The molecules' part. -/
theorem molecules_part (x2 x3 : FVec Ideal S1000000x3 .f32) (x5 : IVec S10000x100 32) (h5 : InOrder x5) (i : S_.Idx) :
    val_main_v23 (F := Ideal) x2 x3 x5 i
    = ((3000⁻¹ : ℝ) : EReal) * ∑ k ∈ range 3, ∑ q ∈ range 10000, molecule (dAt x2 x3) k q * molecule (dAt x2 x3) k q := by
  rw [val_main_v23_apply, val_main_v19_apply, val_main_v18_apply]
  show Ideal.ofBits .f32 0x41200000#32 * Ideal.div (Ideal.ofBits .f32 0x00000000#32 + _) (Ideal.ofBits .f32 0x46EA6000#32) = _
  rw [constants.2.2.2.2, Ideal.ofBits_zero_f32, constants.2.2.1, zero_add, div_real _ _ (by norm_num), ← mul_assoc, ← EReal.coe_mul,
    show (10 * 30000⁻¹ : ℝ) = 3000⁻¹ by norm_num, Finset.sum_comm]
  refine congrArg (fun e : EReal => ((3000⁻¹ : ℝ) : EReal) * e)
    (sum_grid _ (fun q k => molecule (dAt x2 x3) k q * molecule (dAt x2 x3) k q) fun j => ?_)
  rw [val_main_v17_apply, val_main_v16_apply, sums_again, sums_apply x5 h5, sums_apply x5 h5]
  unfold molecule
  rw [Finset.sum_congr rfl fun i _ => dAt_eq x2 x3 (j 1).val (100 * (j 0).val + i)]
  exact (sq_sum_sub _ _ _).symm

/-- The reference's value is the loss. -/
theorem value_eq (x0 x1 : FVec Ideal S1024 .f32) (x2 x3 : FVec Ideal S1000000x3 .f32) (x4 : IVec S1024 32) (x5 : IVec S10000x100 32)
    (h5 : InOrder x5) (i : S_.Idx) : val_main_v24 (F := Ideal) x0 x1 x2 x3 x4 x5 i = loss x0 x1 x2 x3 x4 := by
  rw [val_main_v24_apply, val_main_v22_apply, energies_part, forces_part, molecules_part x2 x3 x5 h5]
  exact add_assoc (_ : EReal) _ _

end Cert.Proof.Ref

end
-- ==== Proof.lean ====
/-
  The certificate: the frames of the kernel, of its ideal program and of the reference, the named constants, and the ideal
  program's result against the reference's.
-/
module

public import proofs.«01_k».proof.Defs
public import proofs.«01_k».proof.Proof.Frames
public import proofs.«01_k».proof.Proof.Result
public import proofs.«01_k».proof.Proof.Ref

@[expose] public section

noncomputable section

namespace Cert.Proof

open Idealize.ShloMosaic Idealize.SL.Sem

/-- The reference's frame: it runs on the host alone, and has no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The two named constants. -/
theorem preserves : Cert.preserves_Kernel_KernelIdeal :=
  ⟨IdealRules.named_const.statement _ _ .f32 _ _ rfl, IdealRules.named_const.statement _ _ .f32 _ _ rfl⟩

/-- From the same arguments, with the molecules' atoms in order, both programs end at the one loss. -/
theorem algebraic : Cert.algebraic_KernelIdeal_ReferenceIdeal_pre_molecules_in_order (hKernelIdeal := Cert.KernelIdeal.Gen.facts)
    (hReferenceIdeal := Cert.ReferenceIdeal.Gen.facts) (hPre_molecules_in_order := Cert.Pre_molecules_in_order.Gen.facts) :=
  fun m ρ m' ρ' hpre hargs => by
    refine ⟨fun c _ => Result.lossOf m c, Result.run m ρ, ?_⟩
    refine (θ_run Cert.ReferenceIdeal.defs _ _).mono (fun r h c => ⟨(h c).1.trans ?_, (h c).2⟩) (Cert.ReferenceIdeal.Value.run (F := Ideal) m' ρ')
    obtain ⟨e0, e1, e2, e3, e4, e5⟩ := hargs c
    rw [Cert.ReferenceIdeal.Read.val_main_v24_eq, e0, e1, e2, e3, e4, e5]
    exact funext fun i => Ref.value_eq _ _ _ _ _ _ (Ref.inOrder_of_pre _ _ _ _ _ _ (hpre c)) i

theorem claim : Cert.Claim := ⟨Cert.Kernel.Gen.facts, Cert.KernelIdeal.Gen.facts, Cert.ReferenceIdeal.Gen.facts,
  Cert.Pre_molecules_in_order.Gen.facts, Frames.kernel, Frames.ideal, fun m ρ _ => Frames.ideal m ρ trivial, frame_reference,
  fun m ρ _ => frame_reference m ρ trivial, preserves, algebraic⟩

end Cert.Proof

end
